-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_floats [hPre_finite_floats : Cert.Pre_finite_floats.Facts] (m : (ℓ : Loc Cert.KernelIdeal.nD Cert.KernelIdeal.τ Cert.KernelIdeal.sig) → Buf (Elt Ideal) ℓ) : Prop :=
  ∀ c : Dev Cert.KernelIdeal.nD,
    (Cert.Pre_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_floats [hPre_finite_floats : Cert.Pre_finite_floats.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_KernelIdeal_pre_finite_floats [hKernelIdeal : Cert.KernelIdeal.Facts] [hPre_finite_floats : Cert.Pre_finite_floats.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_floats m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def quiescent_ReferenceIdeal_pre_finite_floats [hReferenceIdeal : Cert.ReferenceIdeal.Facts] [hPre_finite_floats : Cert.Pre_finite_floats.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_floats m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def preserves_Kernel_KernelIdeal : Prop :=
  True

def algebraic_KernelIdeal_ReferenceIdeal_pre_finite_floats [hKernelIdeal : Cert.KernelIdeal.Facts] [hReferenceIdeal : Cert.ReferenceIdeal.Facts] [hPre_finite_floats : Cert.Pre_finite_floats.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_floats m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v389) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_floats : Cert.Pre_finite_floats.Facts),
    quiescent_Kernel (hKernel := hKernel)
    ∧ quiescent_KernelIdeal (hKernelIdeal := hKernelIdeal)
    ∧ quiescent_KernelIdeal_pre_finite_floats (hKernelIdeal := hKernelIdeal) (hPre_finite_floats := hPre_finite_floats)
    ∧ quiescent_ReferenceIdeal (hReferenceIdeal := hReferenceIdeal)
    ∧ quiescent_ReferenceIdeal_pre_finite_floats (hReferenceIdeal := hReferenceIdeal) (hPre_finite_floats := hPre_finite_floats)
    ∧ preserves_Kernel_KernelIdeal
    ∧ algebraic_KernelIdeal_ReferenceIdeal_pre_finite_floats (hKernelIdeal := hKernelIdeal) (hReferenceIdeal := hReferenceIdeal) (hPre_finite_floats := hPre_finite_floats)
-- ==== Pre_finite_floats.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part8 {F : FTy → Type} [FloatOps F] (main_arg29 : FVec F S128 .f32) (main_arg30 : FVec F S128x40 .f32) (main_arg31 : FVec F S40 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S128 .f32 := Host.absf main_arg29
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x40 .f32 := Host.absf main_arg30
  let main_cst_56 : FVec F S_ .f32 := constant S_ .f32 0x7F800000#32
  let main_v145 : FVec F S128x40 .f32 := broadcastInDim S128x40 ![] bcast_S_S128x40 main_cst_56
  let main_v146 : IVec S128x40 1 := cmpf .olt main_v144 main_v145
  let main_c_57 : IVec S_ 1 := constantI S_ 1 1#1
  let main_v147 : IVec S_ 1 := (fun x v => Host.reduce IntOp.andi x v reducesTo_S128x40_S_d0_1 h_S_) main_v146 main_c_57
  let main_v148 : IVec S_ 1 := andi main_v143 main_v147
  let main_v149 : FVec F S40 .f32 := Host.absf main_arg31
  let main_cst_58 : FVec F S_ .f32 := constant S_ .f32 0x7F800000#32
  let main_v150 : FVec F S40 .f32 := broadcastInDim S40 ![] bcast_S_S40 main_cst_58
  let main_v151 : IVec S40 1 := cmpf .olt main_v149 main_v150
  let main_c_59 : IVec S_ 1 := constantI S_ 1 1#1
  let main_v152 : IVec S_ 1 := (fun x v => Host.reduce IntOp.andi x v reducesTo_S40_S_d0 h_S_) main_v151 main_c_59
  let main_v153 : IVec S_ 1 := andi main_v148 main_v152
  main_v153

def fn_part7 {F : FTy → Type} [FloatOps F] (main_arg26 : FVec F S128x128 .f32) (main_arg27 : FVec F S128 .f32) (main_arg28 : FVec F S128x128 .f32) (main_arg29 : FVec F S128 .f32) (main_arg30 : FVec F S128x40 .f32) (main_arg31 : FVec F S40 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg28
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg29 main_arg30 main_arg31 main_v133 main_v136

def fn_part6 {F : FTy → Type} [FloatOps F] (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_arg26 main_arg27 main_arg28 main_arg29 main_arg30 main_arg31 main_v118 main_v119

def fn_part5 {F : FTy → Type} [FloatOps F] (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg20
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_arg28 main_arg29 main_arg30 main_arg31 main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S10000x128 .f32) (main_arg1 : IVec S2x320000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128x40 .f32) (main_arg31 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x320000 : Shape := ⟨2, ![1, 320000]⟩
abbrev S320000 : Shape := ⟨1, ![320000]⟩
abbrev S10000x1 : Shape := ⟨2, ![10000, 1]⟩
abbrev S1x16 : Shape := ⟨2, ![1, 16]⟩
abbrev S1x128 : Shape := ⟨2, ![1, 128]⟩
abbrev S10000 : Shape := ⟨1, ![10000]⟩
abbrev S1x10000x1 : Shape := ⟨3, ![1, 10000, 1]⟩
abbrev S1 : Shape := ⟨1, ![1]⟩
abbrev S1x1x1 : Shape := ⟨3, ![1, 1, 1]⟩
abbrev S16 : Shape := ⟨1, ![16]⟩
abbrev S_ : Shape := ⟨0, ![]⟩
abbrev S320000x1 : Shape := ⟨2, ![320000, 1]⟩
abbrev S320000x128 : Shape := ⟨2, ![320000, 128]⟩
abbrev S10000x64 : Shape := ⟨2, ![10000, 64]⟩
abbrev S20000x64 : Shape := ⟨2, ![20000, 64]⟩
abbrev S150000 : Shape := ⟨1, ![150000]⟩
abbrev S160000 : Shape := ⟨1, ![160000]⟩
abbrev S16x10000 : Shape := ⟨2, ![16, 10000]⟩
abbrev S1x1 : Shape := ⟨2, ![1, 1]⟩
abbrev S10000x40 : Shape := ⟨2, ![10000, 40]⟩
abbrev S1x40 : Shape := ⟨2, ![1, 40]⟩

abbrev nBuf : Space → Nat
  | .hbm => 285
  | .vmem => 72
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128x128, .f32⟩
  | 29 => ⟨S128, .f32⟩
  | 30 => ⟨S128x40, .f32⟩
  | 31 => ⟨S40, .f32⟩
  | 32 => ⟨S1x320000, .i32⟩
  | 33 => ⟨S320000, .i32⟩
  | 34 => ⟨S1x320000, .i32⟩
  | 35 => ⟨S320000, .i32⟩
  | 36 => ⟨S10000x128, .f32⟩
  | 37 => ⟨S10000x1, .f32⟩
  | 38 => ⟨S10000x1, .f32⟩
  | 39 => ⟨S1x16, .f32⟩
  | 40 => ⟨S10000, .f32⟩
  | 41 => ⟨S10000, .f32⟩
  | 42 => ⟨S16, .f32⟩
  | 43 => ⟨S1, .f32⟩
  | 44 => ⟨S_, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000, .f32⟩
  | 63 => ⟨S320000, .f32⟩
  | 64 => ⟨S_, .f32⟩
  | 65 => ⟨S320000, .f32⟩
  | 66 => ⟨S320000, .f32⟩
  | 67 => ⟨S320000, .f32⟩
  | 68 => ⟨S320000, .f32⟩
  | 69 => ⟨S320000, .f32⟩
  | 70 => ⟨S320000, .f32⟩
  | 71 => ⟨S_, .f32⟩
  | 72 => ⟨S10000, .f32⟩
  | 73 => ⟨S320000x1, .i32⟩
  | 74 => ⟨S10000, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x128, .f32⟩
  | 84 => ⟨S320000x1, .f32⟩
  | 85 => ⟨S320000x128, .f32⟩
  | 86 => ⟨S320000x128, .f32⟩
  | 87 => ⟨S_, .f32⟩
  | 88 => ⟨S10000x128, .f32⟩
  | 89 => ⟨S320000x1, .i32⟩
  | 90 => ⟨S10000x128, .f32⟩
  | 91 => ⟨S10000x64, .f32⟩
  | 92 => ⟨S10000x64, .f32⟩
  | 93 => ⟨S20000x64, .f32⟩
  | 94 => ⟨S_, .f32⟩
  | 95 => ⟨S150000, .f32⟩
  | 96 => ⟨S160000, .f32⟩
  | 97 => ⟨S16x10000, .f32⟩
  | 98 => ⟨S10000x128, .f32⟩
  | 99 => ⟨S10000x1, .f32⟩
  | 100 => ⟨S10000x1, .f32⟩
  | 101 => ⟨S1x16, .f32⟩
  | 102 => ⟨S10000, .f32⟩
  | 103 => ⟨S10000, .f32⟩
  | 104 => ⟨S16, .f32⟩
  | 105 => ⟨S1, .f32⟩
  | 106 => ⟨S_, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000, .f32⟩
  | 125 => ⟨S320000, .f32⟩
  | 126 => ⟨S_, .f32⟩
  | 127 => ⟨S320000, .f32⟩
  | _ => ⟨S10000x128, .f32⟩

abbrev hbmTy0_1 (i : Nat) : BufTy := match i % 128 with
  | 0 => ⟨S320000, .f32⟩
  | 1 => ⟨S320000, .f32⟩
  | 2 => ⟨S320000, .f32⟩
  | 3 => ⟨S320000, .f32⟩
  | 4 => ⟨S320000, .f32⟩
  | 5 => ⟨S_, .f32⟩
  | 6 => ⟨S10000, .f32⟩
  | 7 => ⟨S320000x1, .i32⟩
  | 8 => ⟨S10000, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x128, .f32⟩
  | 18 => ⟨S320000x1, .f32⟩
  | 19 => ⟨S320000x128, .f32⟩
  | 20 => ⟨S320000x128, .f32⟩
  | 21 => ⟨S_, .f32⟩
  | 22 => ⟨S10000x128, .f32⟩
  | 23 => ⟨S320000x1, .i32⟩
  | 24 => ⟨S10000x128, .f32⟩
  | 25 => ⟨S10000x64, .f32⟩
  | 26 => ⟨S10000x64, .f32⟩
  | 27 => ⟨S20000x64, .f32⟩
  | 28 => ⟨S_, .f32⟩
  | 29 => ⟨S150000, .f32⟩
  | 30 => ⟨S160000, .f32⟩
  | 31 => ⟨S16x10000, .f32⟩
  | 32 => ⟨S10000x128, .f32⟩
  | 33 => ⟨S10000x1, .f32⟩
  | 34 => ⟨S10000x1, .f32⟩
  | 35 => ⟨S1x16, .f32⟩
  | 36 => ⟨S10000, .f32⟩
  | 37 => ⟨S10000, .f32⟩
  | 38 => ⟨S16, .f32⟩
  | 39 => ⟨S1, .f32⟩
  | 40 => ⟨S_, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000, .f32⟩
  | 59 => ⟨S320000, .f32⟩
  | 60 => ⟨S_, .f32⟩
  | 61 => ⟨S320000, .f32⟩
  | 62 => ⟨S320000, .f32⟩
  | 63 => ⟨S320000, .f32⟩
  | 64 => ⟨S320000, .f32⟩
  | 65 => ⟨S320000, .f32⟩
  | 66 => ⟨S320000, .f32⟩
  | 67 => ⟨S_, .f32⟩
  | 68 => ⟨S10000, .f32⟩
  | 69 => ⟨S320000x1, .i32⟩
  | 70 => ⟨S10000, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x128, .f32⟩
  | 80 => ⟨S320000x1, .f32⟩
  | 81 => ⟨S320000x128, .f32⟩
  | 82 => ⟨S320000x128, .f32⟩
  | 83 => ⟨S_, .f32⟩
  | 84 => ⟨S10000x128, .f32⟩
  | 85 => ⟨S320000x1, .i32⟩
  | 86 => ⟨S10000x128, .f32⟩
  | 87 => ⟨S10000x64, .f32⟩
  | 88 => ⟨S10000x64, .f32⟩
  | 89 => ⟨S20000x64, .f32⟩
  | 90 => ⟨S_, .f32⟩
  | 91 => ⟨S150000, .f32⟩
  | 92 => ⟨S160000, .f32⟩
  | 93 => ⟨S16x10000, .f32⟩
  | 94 => ⟨S10000x128, .f32⟩
  | 95 => ⟨S10000x1, .f32⟩
  | 96 => ⟨S10000x1, .f32⟩
  | 97 => ⟨S1x16, .f32⟩
  | 98 => ⟨S10000, .f32⟩
  | 99 => ⟨S10000, .f32⟩
  | 100 => ⟨S16, .f32⟩
  | 101 => ⟨S1, .f32⟩
  | 102 => ⟨S_, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000, .f32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S320000, .f32⟩
  | 121 => ⟨S320000, .f32⟩
  | 122 => ⟨S_, .f32⟩
  | 123 => ⟨S320000, .f32⟩
  | 124 => ⟨S320000, .f32⟩
  | 125 => ⟨S320000, .f32⟩
  | 126 => ⟨S320000, .f32⟩
  | 127 => ⟨S320000, .f32⟩
  | _ => ⟨S10000x128, .f32⟩

abbrev hbmTy0_2 (i : Nat) : BufTy := match i % 128 with
  | 0 => ⟨S320000, .f32⟩
  | 1 => ⟨S_, .f32⟩
  | 2 => ⟨S10000, .f32⟩
  | 3 => ⟨S320000x1, .i32⟩
  | 4 => ⟨S10000, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x128, .f32⟩
  | 14 => ⟨S320000x1, .f32⟩
  | 15 => ⟨S320000x128, .f32⟩
  | 16 => ⟨S320000x128, .f32⟩
  | 17 => ⟨S_, .f32⟩
  | 18 => ⟨S10000x128, .f32⟩
  | 19 => ⟨S320000x1, .i32⟩
  | 20 => ⟨S10000x128, .f32⟩
  | 21 => ⟨S10000x64, .f32⟩
  | 22 => ⟨S10000x64, .f32⟩
  | 23 => ⟨S20000x64, .f32⟩
  | 24 => ⟨S_, .f32⟩
  | 25 => ⟨S150000, .f32⟩
  | 26 => ⟨S160000, .f32⟩
  | 27 => ⟨S16x10000, .f32⟩
  | 28 => ⟨S10000x40, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S128, .f32⟩
  | .local _ .vmem, ⟨3, _⟩ => ⟨S128, .f32⟩
  | .local _ .vmem, ⟨4, _⟩ => ⟨S10000x128, .f32⟩
  | .local _ .vmem, ⟨5, _⟩ => ⟨S10000x1, .f32⟩
  | .local _ .vmem, ⟨6, _⟩ => ⟨S10000x1, .f32⟩
  | .local _ .vmem, ⟨7, _⟩ => ⟨S1x16, .f32⟩
  | .local _ .vmem, ⟨8, _⟩ => ⟨S20000x64, .f32⟩
  | .local _ .vmem, ⟨9, _⟩ => ⟨S16x10000, .f32⟩
  | .local _ .vmem, ⟨10, _⟩ => ⟨S10000x128, .f32⟩
  | .local _ .vmem, ⟨11, _⟩ => ⟨S10000x1, .f32⟩
  | .local _ .vmem, ⟨12, _⟩ => ⟨S10000x1, .f32⟩
  | .local _ .vmem, ⟨13, _⟩ => ⟨S1x16, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128, .f32⟩
  | .local _ .vmem, ⟨20, _⟩ => ⟨S10000x128, .f32⟩
  | .local _ .vmem, ⟨21, _⟩ => ⟨S10000x1, .f32⟩
  | .local _ .vmem, ⟨22, _⟩ => ⟨S10000x1, .f32⟩
  | .local _ .vmem, ⟨23, _⟩ => ⟨S1x16, .f32⟩
  | .local _ .vmem, ⟨24, _⟩ => ⟨S20000x64, .f32⟩
  | .local _ .vmem, ⟨25, _⟩ => ⟨S16x10000, .f32⟩
  | .local _ .vmem, ⟨26, _⟩ => ⟨S10000x128, .f32⟩
  | .local _ .vmem, ⟨27, _⟩ => ⟨S10000x1, .f32⟩
  | .local _ .vmem, ⟨28, _⟩ => ⟨S10000x1, .f32⟩
  | .local _ .vmem, ⟨29, _⟩ => ⟨S1x16, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128, .f32⟩
  | .local _ .vmem, ⟨36, _⟩ => ⟨S10000x128, .f32⟩
  | .local _ .vmem, ⟨37, _⟩ => ⟨S10000x1, .f32⟩
  | .local _ .vmem, ⟨38, _⟩ => ⟨S10000x1, .f32⟩
  | .local _ .vmem, ⟨39, _⟩ => ⟨S1x16, .f32⟩
  | .local _ .vmem, ⟨40, _⟩ => ⟨S20000x64, .f32⟩
  | .local _ .vmem, ⟨41, _⟩ => ⟨S16x10000, .f32⟩
  | .local _ .vmem, ⟨42, _⟩ => ⟨S10000x128, .f32⟩
  | .local _ .vmem, ⟨43, _⟩ => ⟨S10000x1, .f32⟩
  | .local _ .vmem, ⟨44, _⟩ => ⟨S10000x1, .f32⟩
  | .local _ .vmem, ⟨45, _⟩ => ⟨S1x16, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128x128, .f32⟩
  | .local _ .vmem, ⟨50, _⟩ => ⟨S128, .f32⟩
  | .local _ .vmem, ⟨51, _⟩ => ⟨S128, .f32⟩
  | .local _ .vmem, ⟨52, _⟩ => ⟨S10000x128, .f32⟩
  | .local _ .vmem, ⟨53, _⟩ => ⟨S10000x1, .f32⟩
  | .local _ .vmem, ⟨54, _⟩ => ⟨S10000x1, .f32⟩
  | .local _ .vmem, ⟨55, _⟩ => ⟨S1x16, .f32⟩
  | .local _ .vmem, ⟨56, _⟩ => ⟨S20000x64, .f32⟩
  | .local _ .vmem, ⟨57, _⟩ => ⟨S16x10000, .f32⟩
  | .local _ .vmem, ⟨58, _⟩ => ⟨S10000x128, .f32⟩
  | .local _ .vmem, ⟨59, _⟩ => ⟨S10000x1, .f32⟩
  | .local _ .vmem, ⟨60, _⟩ => ⟨S10000x1, .f32⟩
  | .local _ .vmem, ⟨61, _⟩ => ⟨S1x16, .f32⟩
  | .local _ .vmem, ⟨62, _⟩ => ⟨S128, .f32⟩
  | .local _ .vmem, ⟨63, _⟩ => ⟨S128, .f32⟩
  | .local _ .vmem, ⟨64, _⟩ => ⟨S128, .f32⟩
  | .local _ .vmem, ⟨65, _⟩ => ⟨S128x128, .f32⟩
  | .local _ .vmem, ⟨66, _⟩ => ⟨S128, .f32⟩
  | .local _ .vmem, ⟨67, _⟩ => ⟨S128x128, .f32⟩
  | .local _ .vmem, ⟨68, _⟩ => ⟨S128, .f32⟩
  | .local _ .vmem, ⟨69, _⟩ => ⟨S128x40, .f32⟩
  | .local _ .vmem, ⟨70, _⟩ => ⟨S40, .f32⟩
  | .local _ .vmem, ⟨71, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v4_3 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_c : Ref sig .tc := ⟨.hbm, 45, rfl⟩
abbrev main_v10 : Ref sig .tc := ⟨.hbm, 46, rfl⟩
abbrev main_v11 : Ref sig .tc := ⟨.hbm, 47, rfl⟩
abbrev main_c_0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_c_1 : Ref sig .tc := ⟨.hbm, 54, rfl⟩
abbrev main_v17 : Ref sig .tc := ⟨.hbm, 55, rfl⟩
abbrev main_v18 : Ref sig .tc := ⟨.hbm, 56, rfl⟩
abbrev main_c_2 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_3 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_4 : Ref sig .tc := ⟨.hbm, 75, rfl⟩
abbrev main_v34 : Ref sig .tc := ⟨.hbm, 76, rfl⟩
abbrev main_v35 : Ref sig .tc := ⟨.hbm, 77, rfl⟩
abbrev main_c_5 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_6 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_7 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53_0 : Ref sig .tc := ⟨.hbm, 98, rfl⟩
abbrev main_v53_1 : Ref sig .tc := ⟨.hbm, 99, rfl⟩
abbrev main_v53_2 : Ref sig .tc := ⟨.hbm, 100, rfl⟩
abbrev main_v53_3 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_c_8 : Ref sig .tc := ⟨.hbm, 107, rfl⟩
abbrev main_v59 : Ref sig .tc := ⟨.hbm, 108, rfl⟩
abbrev main_v60 : Ref sig .tc := ⟨.hbm, 109, rfl⟩
abbrev main_c_9 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_c_10 : Ref sig .tc := ⟨.hbm, 116, rfl⟩
abbrev main_v66 : Ref sig .tc := ⟨.hbm, 117, rfl⟩
abbrev main_v67 : Ref sig .tc := ⟨.hbm, 118, rfl⟩
abbrev main_c_11 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_12 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_13 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_14 : Ref sig .tc := ⟨.hbm, 137, rfl⟩
abbrev main_v83 : Ref sig .tc := ⟨.hbm, 138, rfl⟩
abbrev main_v84 : Ref sig .tc := ⟨.hbm, 139, rfl⟩
abbrev main_c_15 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_16 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_17 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102_0 : Ref sig .tc := ⟨.hbm, 160, rfl⟩
abbrev main_v102_1 : Ref sig .tc := ⟨.hbm, 161, rfl⟩
abbrev main_v102_2 : Ref sig .tc := ⟨.hbm, 162, rfl⟩
abbrev main_v102_3 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_c_18 : Ref sig .tc := ⟨.hbm, 169, rfl⟩
abbrev main_v108 : Ref sig .tc := ⟨.hbm, 170, rfl⟩
abbrev main_v109 : Ref sig .tc := ⟨.hbm, 171, rfl⟩
abbrev main_c_19 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_c_20 : Ref sig .tc := ⟨.hbm, 178, rfl⟩
abbrev main_v115 : Ref sig .tc := ⟨.hbm, 179, rfl⟩
abbrev main_v116 : Ref sig .tc := ⟨.hbm, 180, rfl⟩
abbrev main_c_21 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_22 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_23 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_c_24 : Ref sig .tc := ⟨.hbm, 199, rfl⟩
abbrev main_v132 : Ref sig .tc := ⟨.hbm, 200, rfl⟩
abbrev main_v133 : Ref sig .tc := ⟨.hbm, 201, rfl⟩
abbrev main_c_25 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_26 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_27 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151_0 : Ref sig .tc := ⟨.hbm, 222, rfl⟩
abbrev main_v151_1 : Ref sig .tc := ⟨.hbm, 223, rfl⟩
abbrev main_v151_2 : Ref sig .tc := ⟨.hbm, 224, rfl⟩
abbrev main_v151_3 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_c_28 : Ref sig .tc := ⟨.hbm, 231, rfl⟩
abbrev main_v157 : Ref sig .tc := ⟨.hbm, 232, rfl⟩
abbrev main_v158 : Ref sig .tc := ⟨.hbm, 233, rfl⟩
abbrev main_c_29 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_c_30 : Ref sig .tc := ⟨.hbm, 240, rfl⟩
abbrev main_v164 : Ref sig .tc := ⟨.hbm, 241, rfl⟩
abbrev main_v165 : Ref sig .tc := ⟨.hbm, 242, rfl⟩
abbrev main_c_31 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_cst_32 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_33 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_c_34 : Ref sig .tc := ⟨.hbm, 261, rfl⟩
abbrev main_v181 : Ref sig .tc := ⟨.hbm, 262, rfl⟩
abbrev main_v182 : Ref sig .tc := ⟨.hbm, 263, rfl⟩
abbrev main_c_35 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_cst_36 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_cst_37 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg10_0 : Ref sig .tc := ⟨.vmem, 50, rfl⟩
abbrev cc3_stg11_0 : Ref sig .tc := ⟨.vmem, 51, rfl⟩
abbrev cc3_stg12_0 : Ref sig .tc := ⟨.vmem, 52, rfl⟩
abbrev cc3_stg13_0 : Ref sig .tc := ⟨.vmem, 53, rfl⟩
abbrev cc3_stg14_0 : Ref sig .tc := ⟨.vmem, 54, rfl⟩
abbrev cc3_stg15_0 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc4_stg8_0 : Ref sig .tc := ⟨.vmem, 64, rfl⟩
abbrev cc4_stg9_0 : Ref sig .tc := ⟨.vmem, 65, rfl⟩
abbrev cc4_stg10_0 : Ref sig .tc := ⟨.vmem, 66, rfl⟩
abbrev cc4_stg11_0 : Ref sig .tc := ⟨.vmem, 67, rfl⟩
abbrev cc4_stg12_0 : Ref sig .tc := ⟨.vmem, 68, rfl⟩
abbrev cc4_stg13_0 : Ref sig .tc := ⟨.vmem, 69, rfl⟩
abbrev cc4_stg14_0 : Ref sig .tc := ⟨.vmem, 70, rfl⟩
abbrev cc4_stg15_0 : Ref sig .tc := ⟨.vmem, 71, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc3_sem0_0 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem10_0 : DmaSem sig := 50
abbrev cc3_sem11_0 : DmaSem sig := 51
abbrev cc3_sem12_0 : DmaSem sig := 52
abbrev cc3_sem13_0 : DmaSem sig := 53
abbrev cc3_sem14_0 : DmaSem sig := 54
abbrev cc3_sem15_0 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63
abbrev cc4_sem8_0 : DmaSem sig := 64
abbrev cc4_sem9_0 : DmaSem sig := 65
abbrev cc4_sem10_0 : DmaSem sig := 66
abbrev cc4_sem11_0 : DmaSem sig := 67
abbrev cc4_sem12_0 : DmaSem sig := 68
abbrev cc4_sem13_0 : DmaSem sig := 69
abbrev cc4_sem14_0 : DmaSem sig := 70
abbrev cc4_sem15_0 : DmaSem sig := 71

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

abbrev stage1_0 : Fin 1 → Memref sig .tc .vmem S20000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x10000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S10000x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S10000x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S10000x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x16 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev grid2 : Pipeline.Grid := .none

abbrev stage2_0 : Fin 1 → Memref sig .tc .vmem S20000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S10000x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S10000x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S10000x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S1x16 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev grid3 : Pipeline.Grid := .none

abbrev stage3_0 : Fin 1 → Memref sig .tc .vmem S20000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S16x10000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S10000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S10000x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S10000x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev stage3_12 : Fin 1 → Memref sig .tc .vmem S10000x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))

abbrev stage3_13 : Fin 1 → Memref sig .tc .vmem S10000x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))

abbrev stage3_14 : Fin 1 → Memref sig .tc .vmem S10000x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))

abbrev stage3_15 : Fin 1 → Memref sig .tc .vmem S1x16 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))

abbrev grid4 : Pipeline.Grid := .none

abbrev stage4_0 : Fin 1 → Memref sig .tc .vmem S20000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S16x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S10000x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S10000x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S10000x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S128x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S128x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))

abbrev stage4_12 : Fin 1 → Memref sig .tc .vmem S128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))

abbrev stage4_13 : Fin 1 → Memref sig .tc .vmem S128x40 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))

abbrev stage4_14 : Fin 1 → Memref sig .tc .vmem S40 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))

abbrev stage4_15 : Fin 1 → Memref sig .tc .vmem S10000x40 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S1x128 : Shape := ⟨2, ![1, 128]⟩
abbrev S_ : Shape := ⟨0, ![]⟩
abbrev S330000x1 : Shape := ⟨2, ![330000, 1]⟩
abbrev S1x330000 : Shape := ⟨2, ![1, 330000]⟩
abbrev S10000x1 : Shape := ⟨2, ![10000, 1]⟩
abbrev S10000x330000 : Shape := ⟨2, ![10000, 330000]⟩
abbrev S330000x128 : Shape := ⟨2, ![330000, 128]⟩
abbrev S10000x40 : Shape := ⟨2, ![10000, 40]⟩
abbrev S1x40 : Shape := ⟨2, ![1, 40]⟩

abbrev nBuf : Space → Nat
  | .hbm => 650
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128x128, .f32⟩
  | 29 => ⟨S128, .f32⟩
  | 30 => ⟨S128x40, .f32⟩
  | 31 => ⟨S40, .f32⟩
  | 32 => ⟨S1x320000, .i32⟩
  | 33 => ⟨S320000, .i32⟩
  | 34 => ⟨S1x320000, .i32⟩
  | 35 => ⟨S320000, .i32⟩
  | 36 => ⟨S10000x128, .f32⟩
  | 37 => ⟨S10000, .i32⟩
  | 38 => ⟨S330000, .i32⟩
  | 39 => ⟨S330000, .i32⟩
  | 40 => ⟨S1x128, .f32⟩
  | 41 => ⟨S10000x128, .f32⟩
  | 42 => ⟨S10000x128, .f32⟩
  | 43 => ⟨S_, .f32⟩
  | 44 => ⟨S10000, .f32⟩
  | 45 => ⟨S1x128, .f32⟩
  | 46 => ⟨S10000x128, .f32⟩
  | 47 => ⟨S10000x128, .f32⟩
  | 48 => ⟨S_, .f32⟩
  | 49 => ⟨S10000, .f32⟩
  | 50 => ⟨S_, .i32⟩
  | 51 => ⟨S330000, .i32⟩
  | 52 => ⟨S330000, .i1⟩
  | 53 => ⟨S_, .i32⟩
  | 54 => ⟨S330000, .i32⟩
  | 55 => ⟨S330000, .i32⟩
  | 56 => ⟨S330000, .i32⟩
  | 57 => ⟨S330000x1, .i32⟩
  | 58 => ⟨S330000, .f32⟩
  | 59 => ⟨S_, .i32⟩
  | 60 => ⟨S330000, .i32⟩
  | 61 => ⟨S330000, .i1⟩
  | 62 => ⟨S_, .i32⟩
  | 63 => ⟨S330000, .i32⟩
  | 64 => ⟨S330000, .i32⟩
  | 65 => ⟨S330000, .i32⟩
  | 66 => ⟨S330000x1, .i32⟩
  | 67 => ⟨S330000, .f32⟩
  | 68 => ⟨S330000, .f32⟩
  | 69 => ⟨S_, .f32⟩
  | 70 => ⟨S_, .f32⟩
  | 71 => ⟨S330000, .f32⟩
  | 72 => ⟨S330000, .i1⟩
  | 73 => ⟨S_, .f32⟩
  | 74 => ⟨S330000, .f32⟩
  | 75 => ⟨S330000, .f32⟩
  | 76 => ⟨S330000, .f32⟩
  | 77 => ⟨S1x330000, .i32⟩
  | 78 => ⟨S10000, .i32⟩
  | 79 => ⟨S10000x1, .i32⟩
  | 80 => ⟨S10000x330000, .i32⟩
  | 81 => ⟨S10000x330000, .i32⟩
  | 82 => ⟨S10000x330000, .i1⟩
  | 83 => ⟨S1x330000, .f32⟩
  | 84 => ⟨S_, .f32⟩
  | 85 => ⟨S_, .f32⟩
  | 86 => ⟨S10000x330000, .f32⟩
  | 87 => ⟨S10000x330000, .f32⟩
  | 88 => ⟨S10000x330000, .f32⟩
  | 89 => ⟨S_, .f32⟩
  | 90 => ⟨S10000, .f32⟩
  | 91 => ⟨S_, .i32⟩
  | 92 => ⟨S330000, .i32⟩
  | 93 => ⟨S330000, .i1⟩
  | 94 => ⟨S_, .i32⟩
  | 95 => ⟨S330000, .i32⟩
  | 96 => ⟨S330000, .i32⟩
  | 97 => ⟨S330000, .i32⟩
  | 98 => ⟨S330000x1, .i32⟩
  | 99 => ⟨S330000, .f32⟩
  | 100 => ⟨S330000, .f32⟩
  | 101 => ⟨S330000, .f32⟩
  | 102 => ⟨S_, .f32⟩
  | 103 => ⟨S10000, .f32⟩
  | 104 => ⟨S330000x1, .i32⟩
  | 105 => ⟨S10000, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000, .f32⟩
  | 115 => ⟨S330000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000x128, .f32⟩
  | 125 => ⟨S330000x1, .f32⟩
  | 126 => ⟨S330000x128, .f32⟩
  | 127 => ⟨S330000x128, .f32⟩
  | _ => ⟨S10000x128, .f32⟩

abbrev hbmTy0_1 (i : Nat) : BufTy := match i % 128 with
  | 0 => ⟨S_, .f32⟩
  | 1 => ⟨S10000x128, .f32⟩
  | 2 => ⟨S330000x1, .i32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S10000x128, .f32⟩
  | 23 => ⟨S10000x128, .f32⟩
  | 24 => ⟨S10000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S10000x128, .f32⟩
  | 40 => ⟨S10000x128, .f32⟩
  | 41 => ⟨S_, .f32⟩
  | 42 => ⟨S128, .f32⟩
  | 43 => ⟨S128, .f32⟩
  | 44 => ⟨S128, .f32⟩
  | 45 => ⟨S1x128, .f32⟩
  | 46 => ⟨S10000x128, .f32⟩
  | 47 => ⟨S10000x128, .f32⟩
  | 48 => ⟨S1x128, .f32⟩
  | 49 => ⟨S10000x128, .f32⟩
  | 50 => ⟨S10000x128, .f32⟩
  | 51 => ⟨S1x128, .f32⟩
  | 52 => ⟨S10000x128, .f32⟩
  | 53 => ⟨S10000x128, .f32⟩
  | 54 => ⟨S10000x128, .f32⟩
  | 55 => ⟨S10000, .i32⟩
  | 56 => ⟨S330000, .i32⟩
  | 57 => ⟨S330000, .i32⟩
  | 58 => ⟨S1x128, .f32⟩
  | 59 => ⟨S10000x128, .f32⟩
  | 60 => ⟨S10000x128, .f32⟩
  | 61 => ⟨S_, .f32⟩
  | 62 => ⟨S10000, .f32⟩
  | 63 => ⟨S1x128, .f32⟩
  | 64 => ⟨S10000x128, .f32⟩
  | 65 => ⟨S10000x128, .f32⟩
  | 66 => ⟨S_, .f32⟩
  | 67 => ⟨S10000, .f32⟩
  | 68 => ⟨S_, .i32⟩
  | 69 => ⟨S330000, .i32⟩
  | 70 => ⟨S330000, .i1⟩
  | 71 => ⟨S_, .i32⟩
  | 72 => ⟨S330000, .i32⟩
  | 73 => ⟨S330000, .i32⟩
  | 74 => ⟨S330000, .i32⟩
  | 75 => ⟨S330000x1, .i32⟩
  | 76 => ⟨S330000, .f32⟩
  | 77 => ⟨S_, .i32⟩
  | 78 => ⟨S330000, .i32⟩
  | 79 => ⟨S330000, .i1⟩
  | 80 => ⟨S_, .i32⟩
  | 81 => ⟨S330000, .i32⟩
  | 82 => ⟨S330000, .i32⟩
  | 83 => ⟨S330000, .i32⟩
  | 84 => ⟨S330000x1, .i32⟩
  | 85 => ⟨S330000, .f32⟩
  | 86 => ⟨S330000, .f32⟩
  | 87 => ⟨S_, .f32⟩
  | 88 => ⟨S_, .f32⟩
  | 89 => ⟨S330000, .f32⟩
  | 90 => ⟨S330000, .i1⟩
  | 91 => ⟨S_, .f32⟩
  | 92 => ⟨S330000, .f32⟩
  | 93 => ⟨S330000, .f32⟩
  | 94 => ⟨S330000, .f32⟩
  | 95 => ⟨S1x330000, .i32⟩
  | 96 => ⟨S10000, .i32⟩
  | 97 => ⟨S10000x1, .i32⟩
  | 98 => ⟨S10000x330000, .i32⟩
  | 99 => ⟨S10000x330000, .i32⟩
  | 100 => ⟨S10000x330000, .i1⟩
  | 101 => ⟨S1x330000, .f32⟩
  | 102 => ⟨S_, .f32⟩
  | 103 => ⟨S_, .f32⟩
  | 104 => ⟨S10000x330000, .f32⟩
  | 105 => ⟨S10000x330000, .f32⟩
  | 106 => ⟨S10000x330000, .f32⟩
  | 107 => ⟨S_, .f32⟩
  | 108 => ⟨S10000, .f32⟩
  | 109 => ⟨S_, .i32⟩
  | 110 => ⟨S330000, .i32⟩
  | 111 => ⟨S330000, .i1⟩
  | 112 => ⟨S_, .i32⟩
  | 113 => ⟨S330000, .i32⟩
  | 114 => ⟨S330000, .i32⟩
  | 115 => ⟨S330000, .i32⟩
  | 116 => ⟨S330000x1, .i32⟩
  | 117 => ⟨S330000, .f32⟩
  | 118 => ⟨S330000, .f32⟩
  | 119 => ⟨S330000, .f32⟩
  | 120 => ⟨S_, .f32⟩
  | 121 => ⟨S10000, .f32⟩
  | 122 => ⟨S330000x1, .i32⟩
  | 123 => ⟨S10000, .f32⟩
  | 124 => ⟨S_, .i32⟩
  | 125 => ⟨S330000, .i32⟩
  | 126 => ⟨S330000, .i1⟩
  | 127 => ⟨S_, .i32⟩
  | _ => ⟨S10000x128, .f32⟩

abbrev hbmTy0_2 (i : Nat) : BufTy := match i % 128 with
  | 0 => ⟨S330000, .i32⟩
  | 1 => ⟨S330000, .i32⟩
  | 2 => ⟨S330000, .i32⟩
  | 3 => ⟨S330000x1, .i32⟩
  | 4 => ⟨S330000, .f32⟩
  | 5 => ⟨S330000, .f32⟩
  | 6 => ⟨S_, .i32⟩
  | 7 => ⟨S330000, .i32⟩
  | 8 => ⟨S330000, .i1⟩
  | 9 => ⟨S_, .i32⟩
  | 10 => ⟨S330000, .i32⟩
  | 11 => ⟨S330000, .i32⟩
  | 12 => ⟨S330000, .i32⟩
  | 13 => ⟨S330000x1, .i32⟩
  | 14 => ⟨S330000x128, .f32⟩
  | 15 => ⟨S330000x1, .f32⟩
  | 16 => ⟨S330000x128, .f32⟩
  | 17 => ⟨S330000x128, .f32⟩
  | 18 => ⟨S_, .f32⟩
  | 19 => ⟨S10000x128, .f32⟩
  | 20 => ⟨S330000x1, .i32⟩
  | 21 => ⟨S10000x128, .f32⟩
  | 22 => ⟨S1x128, .f32⟩
  | 23 => ⟨S10000x128, .f32⟩
  | 24 => ⟨S10000x128, .f32⟩
  | 25 => ⟨S_, .f32⟩
  | 26 => ⟨S10000x128, .f32⟩
  | 27 => ⟨S10000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S10000x128, .f32⟩
  | 41 => ⟨S10000x128, .f32⟩
  | 42 => ⟨S10000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S10000x128, .f32⟩
  | 58 => ⟨S10000x128, .f32⟩
  | 59 => ⟨S_, .f32⟩
  | 60 => ⟨S128, .f32⟩
  | 61 => ⟨S128, .f32⟩
  | 62 => ⟨S128, .f32⟩
  | 63 => ⟨S1x128, .f32⟩
  | 64 => ⟨S10000x128, .f32⟩
  | 65 => ⟨S10000x128, .f32⟩
  | 66 => ⟨S1x128, .f32⟩
  | 67 => ⟨S10000x128, .f32⟩
  | 68 => ⟨S10000x128, .f32⟩
  | 69 => ⟨S1x128, .f32⟩
  | 70 => ⟨S10000x128, .f32⟩
  | 71 => ⟨S10000x128, .f32⟩
  | 72 => ⟨S10000x128, .f32⟩
  | 73 => ⟨S10000, .i32⟩
  | 74 => ⟨S330000, .i32⟩
  | 75 => ⟨S330000, .i32⟩
  | 76 => ⟨S1x128, .f32⟩
  | 77 => ⟨S10000x128, .f32⟩
  | 78 => ⟨S10000x128, .f32⟩
  | 79 => ⟨S_, .f32⟩
  | 80 => ⟨S10000, .f32⟩
  | 81 => ⟨S1x128, .f32⟩
  | 82 => ⟨S10000x128, .f32⟩
  | 83 => ⟨S10000x128, .f32⟩
  | 84 => ⟨S_, .f32⟩
  | 85 => ⟨S10000, .f32⟩
  | 86 => ⟨S_, .i32⟩
  | 87 => ⟨S330000, .i32⟩
  | 88 => ⟨S330000, .i1⟩
  | 89 => ⟨S_, .i32⟩
  | 90 => ⟨S330000, .i32⟩
  | 91 => ⟨S330000, .i32⟩
  | 92 => ⟨S330000, .i32⟩
  | 93 => ⟨S330000x1, .i32⟩
  | 94 => ⟨S330000, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S330000, .f32⟩
  | 104 => ⟨S330000, .f32⟩
  | 105 => ⟨S_, .f32⟩
  | 106 => ⟨S_, .f32⟩
  | 107 => ⟨S330000, .f32⟩
  | 108 => ⟨S330000, .i1⟩
  | 109 => ⟨S_, .f32⟩
  | 110 => ⟨S330000, .f32⟩
  | 111 => ⟨S330000, .f32⟩
  | 112 => ⟨S330000, .f32⟩
  | 113 => ⟨S1x330000, .i32⟩
  | 114 => ⟨S10000, .i32⟩
  | 115 => ⟨S10000x1, .i32⟩
  | 116 => ⟨S10000x330000, .i32⟩
  | 117 => ⟨S10000x330000, .i32⟩
  | 118 => ⟨S10000x330000, .i1⟩
  | 119 => ⟨S1x330000, .f32⟩
  | 120 => ⟨S_, .f32⟩
  | 121 => ⟨S_, .f32⟩
  | 122 => ⟨S10000x330000, .f32⟩
  | 123 => ⟨S10000x330000, .f32⟩
  | 124 => ⟨S10000x330000, .f32⟩
  | 125 => ⟨S_, .f32⟩
  | 126 => ⟨S10000, .f32⟩
  | 127 => ⟨S_, .i32⟩
  | _ => ⟨S10000x128, .f32⟩

abbrev hbmTy0_3 (i : Nat) : BufTy := match i % 128 with
  | 0 => ⟨S330000, .i32⟩
  | 1 => ⟨S330000, .i1⟩
  | 2 => ⟨S_, .i32⟩
  | 3 => ⟨S330000, .i32⟩
  | 4 => ⟨S330000, .i32⟩
  | 5 => ⟨S330000, .i32⟩
  | 6 => ⟨S330000x1, .i32⟩
  | 7 => ⟨S330000, .f32⟩
  | 8 => ⟨S330000, .f32⟩
  | 9 => ⟨S330000, .f32⟩
  | 10 => ⟨S_, .f32⟩
  | 11 => ⟨S10000, .f32⟩
  | 12 => ⟨S330000x1, .i32⟩
  | 13 => ⟨S10000, .f32⟩
  | 14 => ⟨S_, .i32⟩
  | 15 => ⟨S330000, .i32⟩
  | 16 => ⟨S330000, .i1⟩
  | 17 => ⟨S_, .i32⟩
  | 18 => ⟨S330000, .i32⟩
  | 19 => ⟨S330000, .i32⟩
  | 20 => ⟨S330000, .i32⟩
  | 21 => ⟨S330000x1, .i32⟩
  | 22 => ⟨S330000, .f32⟩
  | 23 => ⟨S330000, .f32⟩
  | 24 => ⟨S_, .i32⟩
  | 25 => ⟨S330000, .i32⟩
  | 26 => ⟨S330000, .i1⟩
  | 27 => ⟨S_, .i32⟩
  | 28 => ⟨S330000, .i32⟩
  | 29 => ⟨S330000, .i32⟩
  | 30 => ⟨S330000, .i32⟩
  | 31 => ⟨S330000x1, .i32⟩
  | 32 => ⟨S330000x128, .f32⟩
  | 33 => ⟨S330000x1, .f32⟩
  | 34 => ⟨S330000x128, .f32⟩
  | 35 => ⟨S330000x128, .f32⟩
  | 36 => ⟨S_, .f32⟩
  | 37 => ⟨S10000x128, .f32⟩
  | 38 => ⟨S330000x1, .i32⟩
  | 39 => ⟨S10000x128, .f32⟩
  | 40 => ⟨S1x128, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S10000x128, .f32⟩
  | 59 => ⟨S10000x128, .f32⟩
  | 60 => ⟨S10000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S10000x128, .f32⟩
  | 76 => ⟨S10000x128, .f32⟩
  | 77 => ⟨S_, .f32⟩
  | 78 => ⟨S128, .f32⟩
  | 79 => ⟨S128, .f32⟩
  | 80 => ⟨S128, .f32⟩
  | 81 => ⟨S1x128, .f32⟩
  | 82 => ⟨S10000x128, .f32⟩
  | 83 => ⟨S10000x128, .f32⟩
  | 84 => ⟨S1x128, .f32⟩
  | 85 => ⟨S10000x128, .f32⟩
  | 86 => ⟨S10000x128, .f32⟩
  | 87 => ⟨S1x128, .f32⟩
  | 88 => ⟨S10000x128, .f32⟩
  | 89 => ⟨S10000x128, .f32⟩
  | 90 => ⟨S10000x128, .f32⟩
  | 91 => ⟨S10000, .i32⟩
  | 92 => ⟨S330000, .i32⟩
  | 93 => ⟨S330000, .i32⟩
  | 94 => ⟨S1x128, .f32⟩
  | 95 => ⟨S10000x128, .f32⟩
  | 96 => ⟨S10000x128, .f32⟩
  | 97 => ⟨S_, .f32⟩
  | 98 => ⟨S10000, .f32⟩
  | 99 => ⟨S1x128, .f32⟩
  | 100 => ⟨S10000x128, .f32⟩
  | 101 => ⟨S10000x128, .f32⟩
  | 102 => ⟨S_, .f32⟩
  | 103 => ⟨S10000, .f32⟩
  | 104 => ⟨S_, .i32⟩
  | 105 => ⟨S330000, .i32⟩
  | 106 => ⟨S330000, .i1⟩
  | 107 => ⟨S_, .i32⟩
  | 108 => ⟨S330000, .i32⟩
  | 109 => ⟨S330000, .i32⟩
  | 110 => ⟨S330000, .i32⟩
  | 111 => ⟨S330000x1, .i32⟩
  | 112 => ⟨S330000, .f32⟩
  | 113 => ⟨S_, .i32⟩
  | 114 => ⟨S330000, .i32⟩
  | 115 => ⟨S330000, .i1⟩
  | 116 => ⟨S_, .i32⟩
  | 117 => ⟨S330000, .i32⟩
  | 118 => ⟨S330000, .i32⟩
  | 119 => ⟨S330000, .i32⟩
  | 120 => ⟨S330000x1, .i32⟩
  | 121 => ⟨S330000, .f32⟩
  | 122 => ⟨S330000, .f32⟩
  | 123 => ⟨S_, .f32⟩
  | 124 => ⟨S_, .f32⟩
  | 125 => ⟨S330000, .f32⟩
  | 126 => ⟨S330000, .i1⟩
  | 127 => ⟨S_, .f32⟩
  | _ => ⟨S10000x128, .f32⟩

abbrev hbmTy0_4 (i : Nat) : BufTy := match i % 128 with
  | 0 => ⟨S330000, .f32⟩
  | 1 => ⟨S330000, .f32⟩
  | 2 => ⟨S330000, .f32⟩
  | 3 => ⟨S1x330000, .i32⟩
  | 4 => ⟨S10000, .i32⟩
  | 5 => ⟨S10000x1, .i32⟩
  | 6 => ⟨S10000x330000, .i32⟩
  | 7 => ⟨S10000x330000, .i32⟩
  | 8 => ⟨S10000x330000, .i1⟩
  | 9 => ⟨S1x330000, .f32⟩
  | 10 => ⟨S_, .f32⟩
  | 11 => ⟨S_, .f32⟩
  | 12 => ⟨S10000x330000, .f32⟩
  | 13 => ⟨S10000x330000, .f32⟩
  | 14 => ⟨S10000x330000, .f32⟩
  | 15 => ⟨S_, .f32⟩
  | 16 => ⟨S10000, .f32⟩
  | 17 => ⟨S_, .i32⟩
  | 18 => ⟨S330000, .i32⟩
  | 19 => ⟨S330000, .i1⟩
  | 20 => ⟨S_, .i32⟩
  | 21 => ⟨S330000, .i32⟩
  | 22 => ⟨S330000, .i32⟩
  | 23 => ⟨S330000, .i32⟩
  | 24 => ⟨S330000x1, .i32⟩
  | 25 => ⟨S330000, .f32⟩
  | 26 => ⟨S330000, .f32⟩
  | 27 => ⟨S330000, .f32⟩
  | 28 => ⟨S_, .f32⟩
  | 29 => ⟨S10000, .f32⟩
  | 30 => ⟨S330000x1, .i32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S330000, .f32⟩
  | 42 => ⟨S_, .i32⟩
  | 43 => ⟨S330000, .i32⟩
  | 44 => ⟨S330000, .i1⟩
  | 45 => ⟨S_, .i32⟩
  | 46 => ⟨S330000, .i32⟩
  | 47 => ⟨S330000, .i32⟩
  | 48 => ⟨S330000, .i32⟩
  | 49 => ⟨S330000x1, .i32⟩
  | 50 => ⟨S330000x128, .f32⟩
  | 51 => ⟨S330000x1, .f32⟩
  | 52 => ⟨S330000x128, .f32⟩
  | 53 => ⟨S330000x128, .f32⟩
  | 54 => ⟨S_, .f32⟩
  | 55 => ⟨S10000x128, .f32⟩
  | 56 => ⟨S330000x1, .i32⟩
  | 57 => ⟨S10000x128, .f32⟩
  | 58 => ⟨S1x128, .f32⟩
  | 59 => ⟨S10000x128, .f32⟩
  | 60 => ⟨S10000x128, .f32⟩
  | 61 => ⟨S_, .f32⟩
  | 62 => ⟨S10000x128, .f32⟩
  | 63 => ⟨S10000x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S10000x128, .f32⟩
  | 77 => ⟨S10000x128, .f32⟩
  | 78 => ⟨S10000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S10000x128, .f32⟩
  | 94 => ⟨S10000x128, .f32⟩
  | 95 => ⟨S_, .f32⟩
  | 96 => ⟨S128, .f32⟩
  | 97 => ⟨S128, .f32⟩
  | 98 => ⟨S128, .f32⟩
  | 99 => ⟨S1x128, .f32⟩
  | 100 => ⟨S10000x128, .f32⟩
  | 101 => ⟨S10000x128, .f32⟩
  | 102 => ⟨S1x128, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S10000x128, .f32⟩
  | 109 => ⟨S1x128, .f32⟩
  | 110 => ⟨S10000x128, .f32⟩
  | 111 => ⟨S10000x128, .f32⟩
  | 112 => ⟨S_, .f32⟩
  | 113 => ⟨S10000x128, .f32⟩
  | 114 => ⟨S10000x128, .f32⟩
  | 115 => ⟨S10000x128, .f32⟩
  | 116 => ⟨S1x128, .f32⟩
  | 117 => ⟨S10000x128, .f32⟩
  | 118 => ⟨S10000x128, .f32⟩
  | 119 => ⟨S10000x40, .f32⟩
  | 120 => ⟨S1x40, .f32⟩
  | 121 => ⟨S10000x40, .f32⟩
  | 122 => ⟨S10000x40, .f32⟩
  | 123 => ⟨S_, .f32⟩
  | 124 => ⟨S10000, .f32⟩
  | 125 => ⟨S_, .f32⟩
  | 126 => ⟨S10000, .f32⟩
  | 127 => ⟨S10000, .f32⟩
  | _ => ⟨S10000x128, .f32⟩

abbrev hbmTy0_5 (i : Nat) : BufTy := match i % 128 with
  | 0 => ⟨S10000x1, .f32⟩
  | 1 => ⟨S10000x40, .f32⟩
  | 2 => ⟨S10000x40, .f32⟩
  | 3 => ⟨S10000x40, .f32⟩
  | 4 => ⟨S_, .f32⟩
  | 5 => ⟨S10000, .f32⟩
  | 6 => ⟨S10000x1, .f32⟩
  | 7 => ⟨S10000x1, .f32⟩
  | 8 => ⟨S10000x40, .f32⟩
  | 9 => ⟨S10000x40, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_0 : Ref sig .tc := ⟨.hbm, 48, rfl⟩
abbrev main_v15 : Ref sig .tc := ⟨.hbm, 49, rfl⟩
abbrev main_c : Ref sig .tc := ⟨.hbm, 50, rfl⟩
abbrev main_v16 : Ref sig .tc := ⟨.hbm, 51, rfl⟩
abbrev main_v17 : Ref sig .tc := ⟨.hbm, 52, rfl⟩
abbrev main_c_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_2 : Ref sig .tc := ⟨.hbm, 59, rfl⟩
abbrev main_v23 : Ref sig .tc := ⟨.hbm, 60, rfl⟩
abbrev main_v24 : Ref sig .tc := ⟨.hbm, 61, rfl⟩
abbrev main_c_3 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_4 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_5 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v39 : Ref sig .tc := ⟨.hbm, 88, rfl⟩
abbrev main_cst_6 : Ref sig .tc := ⟨.hbm, 89, rfl⟩
abbrev main_v40 : Ref sig .tc := ⟨.hbm, 90, rfl⟩
abbrev main_c_7 : Ref sig .tc := ⟨.hbm, 91, rfl⟩
abbrev main_v41 : Ref sig .tc := ⟨.hbm, 92, rfl⟩
abbrev main_v42 : Ref sig .tc := ⟨.hbm, 93, rfl⟩
abbrev main_c_8 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_9 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_c_10 : Ref sig .tc := ⟨.hbm, 106, rfl⟩
abbrev main_v53 : Ref sig .tc := ⟨.hbm, 107, rfl⟩
abbrev main_v54 : Ref sig .tc := ⟨.hbm, 108, rfl⟩
abbrev main_c_11 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_c_12 : Ref sig .tc := ⟨.hbm, 116, rfl⟩
abbrev main_v61 : Ref sig .tc := ⟨.hbm, 117, rfl⟩
abbrev main_v62 : Ref sig .tc := ⟨.hbm, 118, rfl⟩
abbrev main_c_13 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_14 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_call2_cst : Ref sig .tc := ⟨.hbm, 135, rfl⟩
abbrev main_call2_v0 : Ref sig .tc := ⟨.hbm, 136, rfl⟩
abbrev main_v77 : Ref sig .tc := ⟨.hbm, 137, rfl⟩
abbrev main_cst_15 : Ref sig .tc := ⟨.hbm, 138, rfl⟩
abbrev main_v78 : Ref sig .tc := ⟨.hbm, 139, rfl⟩
abbrev main_cst_16 : Ref sig .tc := ⟨.hbm, 140, rfl⟩
abbrev main_v79 : Ref sig .tc := ⟨.hbm, 141, rfl⟩
abbrev main_v80 : Ref sig .tc := ⟨.hbm, 142, rfl⟩
abbrev main_c_17 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_cst_3 : Ref sig .tc := ⟨.hbm, 160, rfl⟩
abbrev main_call3_v12 : Ref sig .tc := ⟨.hbm, 161, rfl⟩
abbrev main_call3_cst_4 : Ref sig .tc := ⟨.hbm, 162, rfl⟩
abbrev main_call3_call0_v0 : Ref sig .tc := ⟨.hbm, 163, rfl⟩
abbrev main_call3_call0_v1 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_cst_18 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_cst_19 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_20 : Ref sig .tc := ⟨.hbm, 194, rfl⟩
abbrev main_v108 : Ref sig .tc := ⟨.hbm, 195, rfl⟩
abbrev main_c_21 : Ref sig .tc := ⟨.hbm, 196, rfl⟩
abbrev main_v109 : Ref sig .tc := ⟨.hbm, 197, rfl⟩
abbrev main_v110 : Ref sig .tc := ⟨.hbm, 198, rfl⟩
abbrev main_c_22 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_c_23 : Ref sig .tc := ⟨.hbm, 205, rfl⟩
abbrev main_v116 : Ref sig .tc := ⟨.hbm, 206, rfl⟩
abbrev main_v117 : Ref sig .tc := ⟨.hbm, 207, rfl⟩
abbrev main_c_24 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_cst_25 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_cst_26 : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_v132 : Ref sig .tc := ⟨.hbm, 234, rfl⟩
abbrev main_cst_27 : Ref sig .tc := ⟨.hbm, 235, rfl⟩
abbrev main_v133 : Ref sig .tc := ⟨.hbm, 236, rfl⟩
abbrev main_c_28 : Ref sig .tc := ⟨.hbm, 237, rfl⟩
abbrev main_v134 : Ref sig .tc := ⟨.hbm, 238, rfl⟩
abbrev main_v135 : Ref sig .tc := ⟨.hbm, 239, rfl⟩
abbrev main_c_29 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_cst_30 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_c_31 : Ref sig .tc := ⟨.hbm, 252, rfl⟩
abbrev main_v146 : Ref sig .tc := ⟨.hbm, 253, rfl⟩
abbrev main_v147 : Ref sig .tc := ⟨.hbm, 254, rfl⟩
abbrev main_c_32 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_c_33 : Ref sig .tc := ⟨.hbm, 262, rfl⟩
abbrev main_v154 : Ref sig .tc := ⟨.hbm, 263, rfl⟩
abbrev main_v155 : Ref sig .tc := ⟨.hbm, 264, rfl⟩
abbrev main_c_34 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_cst_35 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_call6_cst : Ref sig .tc := ⟨.hbm, 281, rfl⟩
abbrev main_call6_v0 : Ref sig .tc := ⟨.hbm, 282, rfl⟩
abbrev main_v170 : Ref sig .tc := ⟨.hbm, 283, rfl⟩
abbrev main_cst_36 : Ref sig .tc := ⟨.hbm, 284, rfl⟩
abbrev main_v171 : Ref sig .tc := ⟨.hbm, 285, rfl⟩
abbrev main_cst_37 : Ref sig .tc := ⟨.hbm, 286, rfl⟩
abbrev main_v172 : Ref sig .tc := ⟨.hbm, 287, rfl⟩
abbrev main_v173 : Ref sig .tc := ⟨.hbm, 288, rfl⟩
abbrev main_c_38 : Ref sig .tc := ⟨.hbm, 289, rfl⟩
abbrev main_call7_cst : Ref sig .tc := ⟨.hbm, 290, rfl⟩
abbrev main_call7_v0 : Ref sig .tc := ⟨.hbm, 291, rfl⟩
abbrev main_call7_v1 : Ref sig .tc := ⟨.hbm, 292, rfl⟩
abbrev main_call7_cst_0 : Ref sig .tc := ⟨.hbm, 293, rfl⟩
abbrev main_call7_v2 : Ref sig .tc := ⟨.hbm, 294, rfl⟩
abbrev main_call7_v3 : Ref sig .tc := ⟨.hbm, 295, rfl⟩
abbrev main_call7_v4 : Ref sig .tc := ⟨.hbm, 296, rfl⟩
abbrev main_call7_v5 : Ref sig .tc := ⟨.hbm, 297, rfl⟩
abbrev main_call7_v6 : Ref sig .tc := ⟨.hbm, 298, rfl⟩
abbrev main_call7_v7 : Ref sig .tc := ⟨.hbm, 299, rfl⟩
abbrev main_call7_cst_1 : Ref sig .tc := ⟨.hbm, 300, rfl⟩
abbrev main_call7_v8 : Ref sig .tc := ⟨.hbm, 301, rfl⟩
abbrev main_call7_cst_2 : Ref sig .tc := ⟨.hbm, 302, rfl⟩
abbrev main_call7_v9 : Ref sig .tc := ⟨.hbm, 303, rfl⟩
abbrev main_call7_v10 : Ref sig .tc := ⟨.hbm, 304, rfl⟩
abbrev main_call7_v11 : Ref sig .tc := ⟨.hbm, 305, rfl⟩
abbrev main_call7_cst_3 : Ref sig .tc := ⟨.hbm, 306, rfl⟩
abbrev main_call7_v12 : Ref sig .tc := ⟨.hbm, 307, rfl⟩
abbrev main_call7_cst_4 : Ref sig .tc := ⟨.hbm, 308, rfl⟩
abbrev main_call7_call0_v0 : Ref sig .tc := ⟨.hbm, 309, rfl⟩
abbrev main_call7_call0_v1 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_v177 : Ref sig .tc := ⟨.hbm, 314, rfl⟩
abbrev main_cst_39 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_cst_40 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_cst_41 : Ref sig .tc := ⟨.hbm, 340, rfl⟩
abbrev main_v201 : Ref sig .tc := ⟨.hbm, 341, rfl⟩
abbrev main_c_42 : Ref sig .tc := ⟨.hbm, 342, rfl⟩
abbrev main_v202 : Ref sig .tc := ⟨.hbm, 343, rfl⟩
abbrev main_v203 : Ref sig .tc := ⟨.hbm, 344, rfl⟩
abbrev main_c_43 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_c_44 : Ref sig .tc := ⟨.hbm, 351, rfl⟩
abbrev main_v209 : Ref sig .tc := ⟨.hbm, 352, rfl⟩
abbrev main_v210 : Ref sig .tc := ⟨.hbm, 353, rfl⟩
abbrev main_c_45 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_cst_46 : Ref sig .tc := ⟨.hbm, 361, rfl⟩
abbrev main_call8_cst : Ref sig .tc := ⟨.hbm, 362, rfl⟩
abbrev main_call8_v0 : Ref sig .tc := ⟨.hbm, 363, rfl⟩
abbrev main_call8_v1 : Ref sig .tc := ⟨.hbm, 364, rfl⟩
abbrev main_call8_v2 : Ref sig .tc := ⟨.hbm, 365, rfl⟩
abbrev main_call8_v3 : Ref sig .tc := ⟨.hbm, 366, rfl⟩
abbrev main_call8_v4 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_v224 : Ref sig .tc := ⟨.hbm, 375, rfl⟩
abbrev main_cst_47 : Ref sig .tc := ⟨.hbm, 376, rfl⟩
abbrev main_call9_v0 : Ref sig .tc := ⟨.hbm, 377, rfl⟩
abbrev main_call9_v1 : Ref sig .tc := ⟨.hbm, 378, rfl⟩
abbrev main_call9_v2 : Ref sig .tc := ⟨.hbm, 379, rfl⟩
abbrev main_v225 : Ref sig .tc := ⟨.hbm, 380, rfl⟩
abbrev main_cst_48 : Ref sig .tc := ⟨.hbm, 381, rfl⟩
abbrev main_v226 : Ref sig .tc := ⟨.hbm, 382, rfl⟩
abbrev main_c_49 : Ref sig .tc := ⟨.hbm, 383, rfl⟩
abbrev main_v227 : Ref sig .tc := ⟨.hbm, 384, rfl⟩
abbrev main_v228 : Ref sig .tc := ⟨.hbm, 385, rfl⟩
abbrev main_c_50 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_v233 : Ref sig .tc := ⟨.hbm, 391, rfl⟩
abbrev main_v234 : Ref sig .tc := ⟨.hbm, 392, rfl⟩
abbrev main_v235 : Ref sig .tc := ⟨.hbm, 393, rfl⟩
abbrev main_cst_51 : Ref sig .tc := ⟨.hbm, 394, rfl⟩
abbrev main_v236 : Ref sig .tc := ⟨.hbm, 395, rfl⟩
abbrev main_v237 : Ref sig .tc := ⟨.hbm, 396, rfl⟩
abbrev main_v238 : Ref sig .tc := ⟨.hbm, 397, rfl⟩
abbrev main_c_52 : Ref sig .tc := ⟨.hbm, 398, rfl⟩
abbrev main_v239 : Ref sig .tc := ⟨.hbm, 399, rfl⟩
abbrev main_v240 : Ref sig .tc := ⟨.hbm, 400, rfl⟩
abbrev main_c_53 : Ref sig .tc := ⟨.hbm, 401, rfl⟩
abbrev main_v241 : Ref sig .tc := ⟨.hbm, 402, rfl⟩
abbrev main_v242 : Ref sig .tc := ⟨.hbm, 403, rfl⟩
abbrev main_v243 : Ref sig .tc := ⟨.hbm, 404, rfl⟩
abbrev main_v244 : Ref sig .tc := ⟨.hbm, 405, rfl⟩
abbrev main_v245 : Ref sig .tc := ⟨.hbm, 406, rfl⟩
abbrev main_v246 : Ref sig .tc := ⟨.hbm, 407, rfl⟩
abbrev main_c_54 : Ref sig .tc := ⟨.hbm, 408, rfl⟩
abbrev main_v247 : Ref sig .tc := ⟨.hbm, 409, rfl⟩
abbrev main_v248 : Ref sig .tc := ⟨.hbm, 410, rfl⟩
abbrev main_c_55 : Ref sig .tc := ⟨.hbm, 411, rfl⟩
abbrev main_v249 : Ref sig .tc := ⟨.hbm, 412, rfl⟩
abbrev main_v250 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_v254 : Ref sig .tc := ⟨.hbm, 417, rfl⟩
abbrev main_v255 : Ref sig .tc := ⟨.hbm, 418, rfl⟩
abbrev main_v256 : Ref sig .tc := ⟨.hbm, 419, rfl⟩
abbrev main_cst_56 : Ref sig .tc := ⟨.hbm, 420, rfl⟩
abbrev main_v257 : Ref sig .tc := ⟨.hbm, 421, rfl⟩
abbrev main_v258 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_v262 : Ref sig .tc := ⟨.hbm, 426, rfl⟩
abbrev main_call10_cst : Ref sig .tc := ⟨.hbm, 427, rfl⟩
abbrev main_call10_v0 : Ref sig .tc := ⟨.hbm, 428, rfl⟩
abbrev main_v263 : Ref sig .tc := ⟨.hbm, 429, rfl⟩
abbrev main_cst_57 : Ref sig .tc := ⟨.hbm, 430, rfl⟩
abbrev main_v264 : Ref sig .tc := ⟨.hbm, 431, rfl⟩
abbrev main_cst_58 : Ref sig .tc := ⟨.hbm, 432, rfl⟩
abbrev main_v265 : Ref sig .tc := ⟨.hbm, 433, rfl⟩
abbrev main_v266 : Ref sig .tc := ⟨.hbm, 434, rfl⟩
abbrev main_c_59 : Ref sig .tc := ⟨.hbm, 435, rfl⟩
abbrev main_call11_cst : Ref sig .tc := ⟨.hbm, 436, rfl⟩
abbrev main_call11_v0 : Ref sig .tc := ⟨.hbm, 437, rfl⟩
abbrev main_call11_v1 : Ref sig .tc := ⟨.hbm, 438, rfl⟩
abbrev main_call11_cst_0 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_call11_v5 : Ref sig .tc := ⟨.hbm, 443, rfl⟩
abbrev main_call11_v6 : Ref sig .tc := ⟨.hbm, 444, rfl⟩
abbrev main_call11_v7 : Ref sig .tc := ⟨.hbm, 445, rfl⟩
abbrev main_call11_cst_1 : Ref sig .tc := ⟨.hbm, 446, rfl⟩
abbrev main_call11_v8 : Ref sig .tc := ⟨.hbm, 447, rfl⟩
abbrev main_call11_cst_2 : Ref sig .tc := ⟨.hbm, 448, rfl⟩
abbrev main_call11_v9 : Ref sig .tc := ⟨.hbm, 449, rfl⟩
abbrev main_call11_v10 : Ref sig .tc := ⟨.hbm, 450, rfl⟩
abbrev main_call11_v11 : Ref sig .tc := ⟨.hbm, 451, rfl⟩
abbrev main_call11_cst_3 : Ref sig .tc := ⟨.hbm, 452, rfl⟩
abbrev main_call11_v12 : Ref sig .tc := ⟨.hbm, 453, rfl⟩
abbrev main_call11_cst_4 : Ref sig .tc := ⟨.hbm, 454, rfl⟩
abbrev main_call11_call0_v0 : Ref sig .tc := ⟨.hbm, 455, rfl⟩
abbrev main_call11_call0_v1 : Ref sig .tc := ⟨.hbm, 456, rfl⟩
abbrev main_v267 : Ref sig .tc := ⟨.hbm, 457, rfl⟩
abbrev main_v268 : Ref sig .tc := ⟨.hbm, 458, rfl⟩
abbrev main_v269 : Ref sig .tc := ⟨.hbm, 459, rfl⟩
abbrev main_v270 : Ref sig .tc := ⟨.hbm, 460, rfl⟩
abbrev main_cst_60 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_v278 : Ref sig .tc := ⟨.hbm, 469, rfl⟩
abbrev main_v279 : Ref sig .tc := ⟨.hbm, 470, rfl⟩
abbrev main_v280 : Ref sig .tc := ⟨.hbm, 471, rfl⟩
abbrev main_v281 : Ref sig .tc := ⟨.hbm, 472, rfl⟩
abbrev main_v282 : Ref sig .tc := ⟨.hbm, 473, rfl⟩
abbrev main_v283 : Ref sig .tc := ⟨.hbm, 474, rfl⟩
abbrev main_v284 : Ref sig .tc := ⟨.hbm, 475, rfl⟩
abbrev main_v285 : Ref sig .tc := ⟨.hbm, 476, rfl⟩
abbrev main_v286 : Ref sig .tc := ⟨.hbm, 477, rfl⟩
abbrev main_v287 : Ref sig .tc := ⟨.hbm, 478, rfl⟩
abbrev main_v288 : Ref sig .tc := ⟨.hbm, 479, rfl⟩
abbrev main_v289 : Ref sig .tc := ⟨.hbm, 480, rfl⟩
abbrev main_cst_61 : Ref sig .tc := ⟨.hbm, 481, rfl⟩
abbrev main_v290 : Ref sig .tc := ⟨.hbm, 482, rfl⟩
abbrev main_v291 : Ref sig .tc := ⟨.hbm, 483, rfl⟩
abbrev main_v292 : Ref sig .tc := ⟨.hbm, 484, rfl⟩
abbrev main_v293 : Ref sig .tc := ⟨.hbm, 485, rfl⟩
abbrev main_cst_62 : Ref sig .tc := ⟨.hbm, 486, rfl⟩
abbrev main_v294 : Ref sig .tc := ⟨.hbm, 487, rfl⟩
abbrev main_c_63 : Ref sig .tc := ⟨.hbm, 488, rfl⟩
abbrev main_v295 : Ref sig .tc := ⟨.hbm, 489, rfl⟩
abbrev main_v296 : Ref sig .tc := ⟨.hbm, 490, rfl⟩
abbrev main_c_64 : Ref sig .tc := ⟨.hbm, 491, rfl⟩
abbrev main_v297 : Ref sig .tc := ⟨.hbm, 492, rfl⟩
abbrev main_v298 : Ref sig .tc := ⟨.hbm, 493, rfl⟩
abbrev main_v299 : Ref sig .tc := ⟨.hbm, 494, rfl⟩
abbrev main_v300 : Ref sig .tc := ⟨.hbm, 495, rfl⟩
abbrev main_v301 : Ref sig .tc := ⟨.hbm, 496, rfl⟩
abbrev main_c_65 : Ref sig .tc := ⟨.hbm, 497, rfl⟩
abbrev main_v302 : Ref sig .tc := ⟨.hbm, 498, rfl⟩
abbrev main_v303 : Ref sig .tc := ⟨.hbm, 499, rfl⟩
abbrev main_c_66 : Ref sig .tc := ⟨.hbm, 500, rfl⟩
abbrev main_v304 : Ref sig .tc := ⟨.hbm, 501, rfl⟩
abbrev main_v305 : Ref sig .tc := ⟨.hbm, 502, rfl⟩
abbrev main_v306 : Ref sig .tc := ⟨.hbm, 503, rfl⟩
abbrev main_v307 : Ref sig .tc := ⟨.hbm, 504, rfl⟩
abbrev main_v308 : Ref sig .tc := ⟨.hbm, 505, rfl⟩
abbrev main_v309 : Ref sig .tc := ⟨.hbm, 506, rfl⟩
abbrev main_cst_67 : Ref sig .tc := ⟨.hbm, 507, rfl⟩
abbrev main_call12_cst : Ref sig .tc := ⟨.hbm, 508, rfl⟩
abbrev main_call12_v0 : Ref sig .tc := ⟨.hbm, 509, rfl⟩
abbrev main_call12_v1 : Ref sig .tc := ⟨.hbm, 510, rfl⟩
abbrev main_call12_v2 : Ref sig .tc := ⟨.hbm, 511, rfl⟩
abbrev main_call12_v3 : Ref sig .tc := ⟨.hbm, 512, rfl⟩
abbrev main_call12_v4 : Ref sig .tc := ⟨.hbm, 513, rfl⟩
abbrev main_v310 : Ref sig .tc := ⟨.hbm, 514, rfl⟩
abbrev main_v311 : Ref sig .tc := ⟨.hbm, 515, rfl⟩
abbrev main_v312 : Ref sig .tc := ⟨.hbm, 516, rfl⟩
abbrev main_v313 : Ref sig .tc := ⟨.hbm, 517, rfl⟩
abbrev main_v314 : Ref sig .tc := ⟨.hbm, 518, rfl⟩
abbrev main_v315 : Ref sig .tc := ⟨.hbm, 519, rfl⟩
abbrev main_v316 : Ref sig .tc := ⟨.hbm, 520, rfl⟩
abbrev main_v317 : Ref sig .tc := ⟨.hbm, 521, rfl⟩
abbrev main_cst_68 : Ref sig .tc := ⟨.hbm, 522, rfl⟩
abbrev main_call13_v0 : Ref sig .tc := ⟨.hbm, 523, rfl⟩
abbrev main_call13_v1 : Ref sig .tc := ⟨.hbm, 524, rfl⟩
abbrev main_call13_v2 : Ref sig .tc := ⟨.hbm, 525, rfl⟩
abbrev main_v318 : Ref sig .tc := ⟨.hbm, 526, rfl⟩
abbrev main_cst_69 : Ref sig .tc := ⟨.hbm, 527, rfl⟩
abbrev main_v319 : Ref sig .tc := ⟨.hbm, 528, rfl⟩
abbrev main_c_70 : Ref sig .tc := ⟨.hbm, 529, rfl⟩
abbrev main_v320 : Ref sig .tc := ⟨.hbm, 530, rfl⟩
abbrev main_v321 : Ref sig .tc := ⟨.hbm, 531, rfl⟩
abbrev main_c_71 : Ref sig .tc := ⟨.hbm, 532, rfl⟩
abbrev main_v322 : Ref sig .tc := ⟨.hbm, 533, rfl⟩
abbrev main_v323 : Ref sig .tc := ⟨.hbm, 534, rfl⟩
abbrev main_v324 : Ref sig .tc := ⟨.hbm, 535, rfl⟩
abbrev main_v325 : Ref sig .tc := ⟨.hbm, 536, rfl⟩
abbrev main_v326 : Ref sig .tc := ⟨.hbm, 537, rfl⟩
abbrev main_v327 : Ref sig .tc := ⟨.hbm, 538, rfl⟩
abbrev main_v328 : Ref sig .tc := ⟨.hbm, 539, rfl⟩
abbrev main_cst_72 : Ref sig .tc := ⟨.hbm, 540, rfl⟩
abbrev main_v329 : Ref sig .tc := ⟨.hbm, 541, rfl⟩
abbrev main_v330 : Ref sig .tc := ⟨.hbm, 542, rfl⟩
abbrev main_v331 : Ref sig .tc := ⟨.hbm, 543, rfl⟩
abbrev main_c_73 : Ref sig .tc := ⟨.hbm, 544, rfl⟩
abbrev main_v332 : Ref sig .tc := ⟨.hbm, 545, rfl⟩
abbrev main_v333 : Ref sig .tc := ⟨.hbm, 546, rfl⟩
abbrev main_c_74 : Ref sig .tc := ⟨.hbm, 547, rfl⟩
abbrev main_v334 : Ref sig .tc := ⟨.hbm, 548, rfl⟩
abbrev main_v335 : Ref sig .tc := ⟨.hbm, 549, rfl⟩
abbrev main_v336 : Ref sig .tc := ⟨.hbm, 550, rfl⟩
abbrev main_v337 : Ref sig .tc := ⟨.hbm, 551, rfl⟩
abbrev main_v338 : Ref sig .tc := ⟨.hbm, 552, rfl⟩
abbrev main_v339 : Ref sig .tc := ⟨.hbm, 553, rfl⟩
abbrev main_c_75 : Ref sig .tc := ⟨.hbm, 554, rfl⟩
abbrev main_v340 : Ref sig .tc := ⟨.hbm, 555, rfl⟩
abbrev main_v341 : Ref sig .tc := ⟨.hbm, 556, rfl⟩
abbrev main_c_76 : Ref sig .tc := ⟨.hbm, 557, rfl⟩
abbrev main_v342 : Ref sig .tc := ⟨.hbm, 558, rfl⟩
abbrev main_v343 : Ref sig .tc := ⟨.hbm, 559, rfl⟩
abbrev main_v344 : Ref sig .tc := ⟨.hbm, 560, rfl⟩
abbrev main_v345 : Ref sig .tc := ⟨.hbm, 561, rfl⟩
abbrev main_v346 : Ref sig .tc := ⟨.hbm, 562, rfl⟩
abbrev main_v347 : Ref sig .tc := ⟨.hbm, 563, rfl⟩
abbrev main_v348 : Ref sig .tc := ⟨.hbm, 564, rfl⟩
abbrev main_v349 : Ref sig .tc := ⟨.hbm, 565, rfl⟩
abbrev main_cst_77 : Ref sig .tc := ⟨.hbm, 566, rfl⟩
abbrev main_v350 : Ref sig .tc := ⟨.hbm, 567, rfl⟩
abbrev main_v351 : Ref sig .tc := ⟨.hbm, 568, rfl⟩
abbrev main_v352 : Ref sig .tc := ⟨.hbm, 569, rfl⟩
abbrev main_v353 : Ref sig .tc := ⟨.hbm, 570, rfl⟩
abbrev main_v354 : Ref sig .tc := ⟨.hbm, 571, rfl⟩
abbrev main_v355 : Ref sig .tc := ⟨.hbm, 572, rfl⟩
abbrev main_call14_cst : Ref sig .tc := ⟨.hbm, 573, rfl⟩
abbrev main_call14_v0 : Ref sig .tc := ⟨.hbm, 574, rfl⟩
abbrev main_v356 : Ref sig .tc := ⟨.hbm, 575, rfl⟩
abbrev main_cst_78 : Ref sig .tc := ⟨.hbm, 576, rfl⟩
abbrev main_v357 : Ref sig .tc := ⟨.hbm, 577, rfl⟩
abbrev main_cst_79 : Ref sig .tc := ⟨.hbm, 578, rfl⟩
abbrev main_v358 : Ref sig .tc := ⟨.hbm, 579, rfl⟩
abbrev main_v359 : Ref sig .tc := ⟨.hbm, 580, rfl⟩
abbrev main_c_80 : Ref sig .tc := ⟨.hbm, 581, rfl⟩
abbrev main_call15_cst : Ref sig .tc := ⟨.hbm, 582, rfl⟩
abbrev main_call15_v0 : Ref sig .tc := ⟨.hbm, 583, rfl⟩
abbrev main_call15_v1 : Ref sig .tc := ⟨.hbm, 584, rfl⟩
abbrev main_call15_cst_0 : Ref sig .tc := ⟨.hbm, 585, rfl⟩
abbrev main_call15_v2 : Ref sig .tc := ⟨.hbm, 586, rfl⟩
abbrev main_call15_v3 : Ref sig .tc := ⟨.hbm, 587, rfl⟩
abbrev main_call15_v4 : Ref sig .tc := ⟨.hbm, 588, rfl⟩
abbrev main_call15_v5 : Ref sig .tc := ⟨.hbm, 589, rfl⟩
abbrev main_call15_v6 : Ref sig .tc := ⟨.hbm, 590, rfl⟩
abbrev main_call15_v7 : Ref sig .tc := ⟨.hbm, 591, rfl⟩
abbrev main_call15_cst_1 : Ref sig .tc := ⟨.hbm, 592, rfl⟩
abbrev main_call15_v8 : Ref sig .tc := ⟨.hbm, 593, rfl⟩
abbrev main_call15_cst_2 : Ref sig .tc := ⟨.hbm, 594, rfl⟩
abbrev main_call15_v9 : Ref sig .tc := ⟨.hbm, 595, rfl⟩
abbrev main_call15_v10 : Ref sig .tc := ⟨.hbm, 596, rfl⟩
abbrev main_call15_v11 : Ref sig .tc := ⟨.hbm, 597, rfl⟩
abbrev main_call15_cst_3 : Ref sig .tc := ⟨.hbm, 598, rfl⟩
abbrev main_call15_v12 : Ref sig .tc := ⟨.hbm, 599, rfl⟩
abbrev main_call15_cst_4 : Ref sig .tc := ⟨.hbm, 600, rfl⟩
abbrev main_call15_call0_v0 : Ref sig .tc := ⟨.hbm, 601, rfl⟩
abbrev main_call15_call0_v1 : Ref sig .tc := ⟨.hbm, 602, rfl⟩
abbrev main_v360 : Ref sig .tc := ⟨.hbm, 603, rfl⟩
abbrev main_v361 : Ref sig .tc := ⟨.hbm, 604, rfl⟩
abbrev main_v362 : Ref sig .tc := ⟨.hbm, 605, rfl⟩
abbrev main_v363 : Ref sig .tc := ⟨.hbm, 606, rfl⟩
abbrev main_cst_81 : Ref sig .tc := ⟨.hbm, 607, rfl⟩
abbrev main_v364 : Ref sig .tc := ⟨.hbm, 608, rfl⟩
abbrev main_v365 : Ref sig .tc := ⟨.hbm, 609, rfl⟩
abbrev main_v366 : Ref sig .tc := ⟨.hbm, 610, rfl⟩
abbrev main_v367 : Ref sig .tc := ⟨.hbm, 611, rfl⟩
abbrev main_v368 : Ref sig .tc := ⟨.hbm, 612, rfl⟩
abbrev main_v369 : Ref sig .tc := ⟨.hbm, 613, rfl⟩
abbrev main_v370 : Ref sig .tc := ⟨.hbm, 614, rfl⟩
abbrev main_v371 : Ref sig .tc := ⟨.hbm, 615, rfl⟩
abbrev main_v372 : Ref sig .tc := ⟨.hbm, 616, rfl⟩
abbrev main_v373 : Ref sig .tc := ⟨.hbm, 617, rfl⟩
abbrev main_v374 : Ref sig .tc := ⟨.hbm, 618, rfl⟩
abbrev main_v375 : Ref sig .tc := ⟨.hbm, 619, rfl⟩
abbrev main_v376 : Ref sig .tc := ⟨.hbm, 620, rfl⟩
abbrev main_v377 : Ref sig .tc := ⟨.hbm, 621, rfl⟩
abbrev main_v378 : Ref sig .tc := ⟨.hbm, 622, rfl⟩
abbrev main_v379 : Ref sig .tc := ⟨.hbm, 623, rfl⟩
abbrev main_call16_cst : Ref sig .tc := ⟨.hbm, 624, rfl⟩
abbrev main_call16_v0 : Ref sig .tc := ⟨.hbm, 625, rfl⟩
abbrev main_v380 : Ref sig .tc := ⟨.hbm, 626, rfl⟩
abbrev main_v381 : Ref sig .tc := ⟨.hbm, 627, rfl⟩
abbrev main_v382 : Ref sig .tc := ⟨.hbm, 628, rfl⟩
abbrev main_v383 : Ref sig .tc := ⟨.hbm, 629, rfl⟩
abbrev main_v384 : Ref sig .tc := ⟨.hbm, 630, rfl⟩
abbrev main_v385 : Ref sig .tc := ⟨.hbm, 631, rfl⟩
abbrev main_v386 : Ref sig .tc := ⟨.hbm, 632, rfl⟩
abbrev main_v387 : Ref sig .tc := ⟨.hbm, 633, rfl⟩
abbrev main_v388 : Ref sig .tc := ⟨.hbm, 634, rfl⟩
abbrev main_call17_cst : Ref sig .tc := ⟨.hbm, 635, rfl⟩
abbrev main_call17_v0 : Ref sig .tc := ⟨.hbm, 636, rfl⟩
abbrev main_call17_cst_0 : Ref sig .tc := ⟨.hbm, 637, rfl⟩
abbrev main_call17_v1 : Ref sig .tc := ⟨.hbm, 638, rfl⟩
abbrev main_call17_v2 : Ref sig .tc := ⟨.hbm, 639, rfl⟩
abbrev main_call17_v3 : Ref sig .tc := ⟨.hbm, 640, rfl⟩
abbrev main_call17_v4 : Ref sig .tc := ⟨.hbm, 641, rfl⟩
abbrev main_call17_v5 : Ref sig .tc := ⟨.hbm, 642, rfl⟩
abbrev main_call17_v6 : Ref sig .tc := ⟨.hbm, 643, rfl⟩
abbrev main_call17_cst_1 : Ref sig .tc := ⟨.hbm, 644, rfl⟩
abbrev main_call17_v7 : Ref sig .tc := ⟨.hbm, 645, rfl⟩
abbrev main_call17_v8 : Ref sig .tc := ⟨.hbm, 646, rfl⟩
abbrev main_call17_v9 : Ref sig .tc := ⟨.hbm, 647, rfl⟩
abbrev main_call17_v10 : Ref sig .tc := ⟨.hbm, 648, rfl⟩
abbrev main_v389 : Ref sig .tc := ⟨.hbm, 649, rfl⟩

abbrev nD : Nat := 1
abbrev τ : Topo := Topo.v7x

variable {F : FTy → Type} [FloatOps F]
-- ==== Proof.Frames.lean ====
/-
  What the claims take besides the generated frames: the side conditions of the precondition's function, and the
  reference's frame with every semaphore counter at zero.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The shapes the precondition's operations take fit together. -/
instance preFacts : Cert.Pre_finite_floats.Facts := by
  constructor <;> decide

/-- The reference runs to its end, leaves its argument arrays as they were and every semaphore counter at zero: it has no
    semaphore. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0) :=
  (θ_run _ _ _).mono (fun r h => ⟨fun c => (h c).2, sem_eq_zero_of_no_sems (by decide) r.2⟩)
    (Cert.ReferenceIdeal.Value.run m g)

end Cert.Proof

end
-- ==== Proof.EdgeHost.lean ====
/-
  The edge phase that the kernel's program runs between its regions, as functions of the arrays it reads.
-/
module

public import proofs.«01_k».proof.Proof.Gen.KernelIdeal.Frame

@[expose] public section

set_option maxRecDepth 16384

noncomputable section

namespace Cert.Proof.EdgeHost

open Cert.KernelIdeal Cert.KernelIdeal.Gen Idealize.ShloMosaic Idealize.ShloMosaic.TcCoe Idealize.SL.Sem

variable {F : FTy → Type} [FloatOps F]

/-- The start indices of a gather at the numbers `w`: each counted from the end when negative. -/
def starts (w : IVec S320000 32) : IVec S320000x1 32 :=
  broadcastInDim S320000x1 ![0] bcast_S320000_S320000x1_0
    (select (cmpi .slt w (broadcastInDim S320000 ![] bcast_S_S320000 (constantI S_ 32 0#32)))
      (addi w (broadcastInDim S320000 ![] bcast_S_S320000 (constantI S_ 32 10000#32))) w)

/-- The numbers `w` as the indices of a scatter. -/
def places (w : IVec S320000 32) : IVec S320000x1 32 := broadcastInDim S320000x1 ![0] bcast_S320000_S320000x1_0 w

/-- Each edge's score before rectifying. -/
def raw (s d : Vec F S10000x1 .f32) (src dst : IVec S320000 32) : Vec F S320000 .f32 :=
  addf (Host.gather gather_S10000_S320000x1_S320000_n_0_n_n_0_1_1 (shapeCast S10000 s shapeCasts_S10000x1_S10000) (starts src))
    (Host.gather gather_S10000_S320000x1_S320000_n_0_n_n_0_1_1 (shapeCast S10000 d shapeCasts_S10000x1_S10000) (starts dst))

/-- The shift: the first word of the row that holds it. -/
def shift (c : Vec F S1x16 .f32) : Vec F S_ .f32 :=
  shapeCast S_ (extractStridedSlice S1 ![0] (shapeCast S16 c shapeCasts_S1x16_S16) slices_S16_S1_0) shapeCasts_S1_S_

/-- Each edge's weight. -/
def weight (s d : Vec F S10000x1 .f32) (c : Vec F S1x16 .f32) (src dst : IVec S320000 32) : Vec F S320000 .f32 :=
  Host.exp (subf (maximumf (raw s d src dst)
      (mulf (broadcastInDim S320000 ![] bcast_S_S320000 (constant S_ .f32 0x3E4CCCCD#32)) (raw s d src dst)))
    (broadcastInDim S320000 ![] bcast_S_S320000 (shift c)))

/-- The weights summed by the node arrived at. -/
def sums (ex : Vec F S320000 .f32) (dst : IVec S320000 32) : Vec F S10000 .f32 :=
  Host.scatterAdd scatter_S10000_S320000x1_S320000_n_0_0_1
    (broadcastInDim S10000 ![] bcast_S_S10000 (constant S_ .f32 0x00000000#32)) (places dst) ex

/-- The weighted rows summed by the node arrived at. -/
def rows (h : Vec F S10000x128 .f32) (ex : Vec F S320000 .f32) (src dst : IVec S320000 32) : Vec F S10000x128 .f32 :=
  Host.scatterAdd scatter_S10000x128_S320000x1_S320000x128_1_0_0_1
    (broadcastInDim S10000x128 ![] bcast_S_S10000x128 (constant S_ .f32 0x00000000#32)) (places dst)
    (mulf (Host.gather gather_S10000x128_S320000x1_S320000x128_1_0_n_n_0_1_1128 h (starts src))
      (broadcastInDim S320000x128 ![0, 1] bcast_S320000x1_S320000x128_0_1
        (broadcastInDim S320000x1 ![0] bcast_S320000_S320000x1_0 ex)))

/-- The two halves of the columns, one above the other. -/
def stacked (x : Vec F S10000x128 .f32) : Vec F S20000x64 .f32 :=
  concatenate S20000x64 0 [⟨S10000x64, extractStridedSlice S10000x64 ![0, 0] x slices_S10000x128_S10000x64_0_0⟩,
    ⟨S10000x64, extractStridedSlice S10000x64 ![0, 64] x slices_S10000x128_S10000x64_0_64⟩]
    concatenates_S10000x64_S10000x64_S20000x64_d0

/-- A vector as the first of sixteen rows, the others zero. -/
def padded (z : Vec F S10000 .f32) : Vec F S16x10000 .f32 :=
  shapeCast S16x10000 (concatenate S160000 0 [⟨S10000, z⟩,
    ⟨S150000, broadcastInDim S150000 ![] bcast_S_S150000 (constant S_ .f32 0x00000000#32)⟩]
    concatenates_S10000_S150000_S160000_d0) shapeCasts_S160000_S16x10000

variable (V : Valuation τ sig (Elt F))

/-- The accumulated rows before region 1. -/
theorem acc1 : StableHlo.after hostOps1 V (Proc.devRef .tc main_v49)
    = stacked (rows (V (Proc.devRef .tc main_v4_0))
        (weight (V (Proc.devRef .tc main_v4_1)) (V (Proc.devRef .tc main_v4_2)) (V (Proc.devRef .tc main_v4_3))
          (V (Proc.devRef .tc main_v1)) (V (Proc.devRef .tc main_v3)))
        (V (Proc.devRef .tc main_v1)) (V (Proc.devRef .tc main_v3))) := by
  after_results
  rfl

/-- The accumulated weights before region 1. -/
theorem tot1 : StableHlo.after hostOps1 V (Proc.devRef .tc main_v52)
    = padded (sums
        (weight (V (Proc.devRef .tc main_v4_1)) (V (Proc.devRef .tc main_v4_2)) (V (Proc.devRef .tc main_v4_3))
          (V (Proc.devRef .tc main_v1)) (V (Proc.devRef .tc main_v3)))
        (V (Proc.devRef .tc main_v3))) := by
  after_results
  rfl

/-- The accumulated rows before region 2. -/
theorem acc2 : StableHlo.after hostOps2 V (Proc.devRef .tc main_v98)
    = stacked (rows (V (Proc.devRef .tc main_v53_0))
        (weight (V (Proc.devRef .tc main_v53_1)) (V (Proc.devRef .tc main_v53_2)) (V (Proc.devRef .tc main_v53_3))
          (V (Proc.devRef .tc main_v1)) (V (Proc.devRef .tc main_v3)))
        (V (Proc.devRef .tc main_v1)) (V (Proc.devRef .tc main_v3))) := by
  after_results
  rfl

/-- The accumulated weights before region 2. -/
theorem tot2 : StableHlo.after hostOps2 V (Proc.devRef .tc main_v101)
    = padded (sums
        (weight (V (Proc.devRef .tc main_v53_1)) (V (Proc.devRef .tc main_v53_2)) (V (Proc.devRef .tc main_v53_3))
          (V (Proc.devRef .tc main_v1)) (V (Proc.devRef .tc main_v3)))
        (V (Proc.devRef .tc main_v3))) := by
  after_results
  rfl

/-- The accumulated rows before region 3. -/
theorem acc3 : StableHlo.after hostOps3 V (Proc.devRef .tc main_v147)
    = stacked (rows (V (Proc.devRef .tc main_v102_0))
        (weight (V (Proc.devRef .tc main_v102_1)) (V (Proc.devRef .tc main_v102_2)) (V (Proc.devRef .tc main_v102_3))
          (V (Proc.devRef .tc main_v1)) (V (Proc.devRef .tc main_v3)))
        (V (Proc.devRef .tc main_v1)) (V (Proc.devRef .tc main_v3))) := by
  after_results
  rfl

/-- The accumulated weights before region 3. -/
theorem tot3 : StableHlo.after hostOps3 V (Proc.devRef .tc main_v150)
    = padded (sums
        (weight (V (Proc.devRef .tc main_v102_1)) (V (Proc.devRef .tc main_v102_2)) (V (Proc.devRef .tc main_v102_3))
          (V (Proc.devRef .tc main_v1)) (V (Proc.devRef .tc main_v3)))
        (V (Proc.devRef .tc main_v3))) := by
  after_results
  rfl

/-- The accumulated rows before region 4. -/
theorem acc4 : StableHlo.after hostOps4 V (Proc.devRef .tc main_v196)
    = stacked (rows (V (Proc.devRef .tc main_v151_0))
        (weight (V (Proc.devRef .tc main_v151_1)) (V (Proc.devRef .tc main_v151_2)) (V (Proc.devRef .tc main_v151_3))
          (V (Proc.devRef .tc main_v1)) (V (Proc.devRef .tc main_v3)))
        (V (Proc.devRef .tc main_v1)) (V (Proc.devRef .tc main_v3))) := by
  after_results
  rfl

/-- The accumulated weights before region 4. -/
theorem tot4 : StableHlo.after hostOps4 V (Proc.devRef .tc main_v199)
    = padded (sums
        (weight (V (Proc.devRef .tc main_v151_1)) (V (Proc.devRef .tc main_v151_2)) (V (Proc.devRef .tc main_v151_3))
          (V (Proc.devRef .tc main_v1)) (V (Proc.devRef .tc main_v3)))
        (V (Proc.devRef .tc main_v3))) := by
  after_results
  rfl

/-- The row of the edge list that holds the nodes read. -/
def srcs (e : IVec S2x320000 32) : IVec S320000 32 :=
  shapeCast S320000 (extractStridedSlice S1x320000 ![0, 0] e slices_S2x320000_S1x320000_0_0) shapeCasts_S1x320000_S320000

/-- The row of the edge list that holds the nodes arrived at. -/
def dsts (e : IVec S2x320000 32) : IVec S320000 32 :=
  shapeCast S320000 (extractStridedSlice S1x320000 ![1, 0] e slices_S2x320000_S1x320000_1_0) shapeCasts_S1x320000_S320000

/-- The first ends of the edges, as the host code reads them. -/
theorem src0 : StableHlo.after hostOps0 V (Proc.devRef .tc main_v1) = srcs (V (Proc.devRef .tc main_arg1)) := by
  after_results
  rfl

/-- The second ends of the edges, as the host code reads them. -/
theorem dst0 : StableHlo.after hostOps0 V (Proc.devRef .tc main_v3) = dsts (V (Proc.devRef .tc main_arg1)) := by
  after_results
  rfl

end Cert.Proof.EdgeHost

end
-- ==== Proof.Reading.lean ====
/-
  Reading the array operations of both programs at one index: the gathers of a vector and of a table's rows by a
  column of start indices, the accumulating scatters into them, and the folds of a maximum.
-/
module

public import Idealize.ShloMosaic.Lib.Pipeline.Value
public import Idealize.ShloMosaic.Lib.ValueIdx
public import Idealize.ShloMosaic.PureOps.Ideal.Laws
public import Mathlib.Data.EReal.Operations

@[expose] public section

noncomputable section

namespace Cert.Proof

open Idealize.ShloMosaic Idealize.ShloMosaic.ValueIdx

/-! ## Real arrays among the extended reals -/

/-- A finite sum of reals, taken among the extended reals. -/
theorem coe_sum_real {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of two reals, taken among the extended reals. -/
theorem coe_max_real (a b : ℝ) : ((max a b : ℝ) : EReal) = max (a : EReal) (b : EReal) :=
  EReal.coe_strictMono.monotone.map_max

/-- A vector of reals as an array of extended reals. -/
def arr1 {a : Nat} (f : Fin a → ℝ) : (⟨1, ![a]⟩ : Shape).Idx → EReal := fun i => ((f (i 0) : ℝ) : EReal)

/-- A matrix of reals as an array of extended reals. -/
def arr2 {a b : Nat} (f : Fin a → Fin b → ℝ) : (⟨2, ![a, b]⟩ : Shape).Idx → EReal :=
  fun i => ((f (i 0) (i 1) : ℝ) : EReal)

/-- A real vector at an index. -/
theorem arr1_ix1 {a : Nat} (f : Fin a → ℝ) (i : Fin a) : arr1 f (ix1 i) = (f i : EReal) := rfl

/-- A real matrix at an index. -/
theorem arr2_ix2 {a b : Nat} (f : Fin a → Fin b → ℝ) (i : Fin a) (j : Fin b) : arr2 f (ix2 i j) = (f i j : EReal) := rfl

/-- A vector all of whose entries are the given reals is that real vector. -/
theorem eq_arr1 {a : Nat} {x : (⟨1, ![a]⟩ : Shape).Idx → EReal} {f : Fin a → ℝ} (h : ∀ i, x (ix1 i) = (f i : EReal)) :
    x = arr1 f := by
  funext j
  rw [eq_ix1 j]
  exact h _

/-- A matrix all of whose entries are the given reals is that real matrix. -/
theorem eq_arr2 {a b : Nat} {x : (⟨2, ![a, b]⟩ : Shape).Idx → EReal} {f : Fin a → Fin b → ℝ}
    (h : ∀ i j, x (ix2 i j) = (f i j : EReal)) : x = arr2 f := by
  funext j
  rw [eq_ix2 j]
  exact h _ _

/-! ## Gathers by a column of start indices -/

/-- The row a gather of a table of `N` rows reads at a start index: the signed word clamped into the table. -/
def rowOf (N : Nat) (hN : 0 < N) (w : BitVec 32) : Fin N := ⟨min w.toInt.toNat (N - 1), by omega⟩

/-- A gather of single entries of a vector reads, at each position, the entry its start index names after clamping. -/
theorem gatherVec_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → EReal) (idx : IVec ⟨2, ![R, 1]⟩ 32) (k : Fin R) :
    Host.gather (⟨[], [0], [], [], [0], 1, ![1], wf⟩ : GatherDims ⟨1, ![N]⟩ ⟨2, ![R, 1]⟩ ⟨1, ![R]⟩) x idx (ix1 k)
      = x (ix1 (rowOf N hN (idx (ix2 k 0)))) := by
  generalize hd : (⟨[], [0], [], [], [0], 1, ![1], wf⟩ : GatherDims ⟨1, ![N]⟩ ⟨2, ![R, 1]⟩ ⟨1, ![R]⟩) = d
  have hm : (0 : Fin 1) ∈ d.startIndexMap := by subst hd; exact List.mem_singleton.mpr rfl
  have hsi : d.siIdx (ix1 k) ⟨d.startIndexMap.idxOf 0, List.idxOf_lt_length_iff.2 hm⟩ = ix2 k 0 := by
    subst hd
    funext b
    apply Fin.ext
    match b with
    | ⟨0, _⟩ => rfl
    | ⟨1, _⟩ => rfl
  have hsl : d.sliceSizes 0 = 1 := by subst hd; rfl
  have hob : (0 : Fin 1) ∉ d.operandBatchingDims := by subst hd; exact List.not_mem_nil
  have hk : (0 : Fin 1) ∉ d.sKept := fun h =>
    ((GatherDims.mem_sKept _ _).mp h).1 (by subst hd; exact List.mem_singleton.mpr rfl)
  unfold Host.gather
  congr 1
  funext a
  apply Fin.ext
  match a with
  | ⟨0, _⟩ =>
    show d.start (ix1 k) idx 0 + d.batchCoord (ix1 k) 0 + d.offCoord (ix1 k) 0 = min (idx (ix2 k 0)).toInt.toNat (N - 1)
    rw [GatherDims.batchCoord_eq_zero _ _ _ hob, GatherDims.offCoord_eq_zero _ _ _ hk]
    unfold GatherDims.start
    rw [dif_pos hm, hsi, hsl]
    rfl

/-- A gather of whole rows of a table reads, at row `k` and column `c`, the table's entry in the row the start index of `k`
    names after clamping. -/
theorem gatherRows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → EReal) (idx : IVec ⟨2, ![R, 1]⟩ 32) (k : Fin R) (c : Fin C) :
    Host.gather (⟨[1], [0], [], [], [0], 1, ![1, C], wf⟩ : GatherDims ⟨2, ![N, C]⟩ ⟨2, ![R, 1]⟩ ⟨2, ![R, C]⟩) x idx (ix2 k c)
      = x (ix2 (rowOf N hN (idx (ix2 k 0))) c) := by
  generalize hd : (⟨[1], [0], [], [], [0], 1, ![1, C], wf⟩ : GatherDims ⟨2, ![N, C]⟩ ⟨2, ![R, 1]⟩ ⟨2, ![R, C]⟩) = d
  have hm : (0 : Fin 2) ∈ d.startIndexMap := by subst hd; exact List.mem_singleton.mpr rfl
  have hm1 : (1 : Fin 2) ∉ d.startIndexMap := by subst hd; simp
  have hsi : d.siIdx (ix2 k c) ⟨d.startIndexMap.idxOf 0, List.idxOf_lt_length_iff.2 hm⟩ = ix2 k 0 := by
    subst hd
    funext b
    apply Fin.ext
    match b with
    | ⟨0, _⟩ => rfl
    | ⟨1, _⟩ => rfl
  have hsl : d.sliceSizes 0 = 1 := by subst hd; rfl
  have hob : ∀ a : Fin 2, a ∉ d.operandBatchingDims := by subst hd; exact fun a => List.not_mem_nil
  have hk : (0 : Fin 2) ∉ d.sKept := fun h =>
    ((GatherDims.mem_sKept _ _).mp h).1 (by subst hd; exact List.mem_singleton.mpr rfl)
  have hoff : d.offCoord (ix2 k c) 1 = c.val := by subst hd; rfl
  unfold Host.gather
  congr 1
  funext a
  apply Fin.ext
  match a with
  | ⟨0, _⟩ =>
    show d.start (ix2 k c) idx 0 + d.batchCoord (ix2 k c) 0 + d.offCoord (ix2 k c) 0 = min (idx (ix2 k 0)).toInt.toNat (N - 1)
    rw [GatherDims.batchCoord_eq_zero _ _ _ (hob _), GatherDims.offCoord_eq_zero _ _ _ hk]
    unfold GatherDims.start
    rw [dif_pos hm, hsi, hsl]
    rfl
  | ⟨1, _⟩ =>
    show d.start (ix2 k c) idx 1 + d.batchCoord (ix2 k c) 1 + d.offCoord (ix2 k c) 1 = c.val
    rw [GatherDims.batchCoord_eq_zero _ _ _ (hob _), hoff]
    unfold GatherDims.start
    rw [dif_neg hm1]
    omega

/-! ## Accumulating scatters by a column of indices -/

/-- An update of a scatter into a vector lands at `x` exactly when its signed index is `x`. -/
theorem scatterVec_lands {N R : Nat} (wf : ScatterDims.WF ⟨1, ![N]⟩ ⟨2, ![R, 1]⟩ ⟨1, ![R]⟩ [] [0] [0] 1)
    (idx : IVec ⟨2, ![R, 1]⟩ 32) (k : Fin R) (x : Fin N) :
    (⟨[], [0], [0], 1, wf⟩ : ScatterDims ⟨1, ![N]⟩ ⟨2, ![R, 1]⟩ ⟨1, ![R]⟩).resultIdx? (ix1 k) idx = some (ix1 x)
      ↔ (idx (ix2 k 0)).toInt = (x.val : Int) := by
  generalize hd : (⟨[], [0], [0], 1, wf⟩ : ScatterDims ⟨1, ![N]⟩ ⟨2, ![R, 1]⟩ ⟨1, ![R]⟩) = d
  have hm : (0 : Fin 1) ∈ d.scatterDimsToOperandDims := by subst hd; exact List.mem_singleton.mpr rfl
  have hsi : d.siIdx (ix1 k) ⟨d.scatterDimsToOperandDims.idxOf 0, List.idxOf_lt_length_iff.2 hm⟩ = ix2 k 0 := by
    subst hd
    funext b
    apply Fin.ext
    match b with
    | ⟨0, _⟩ => rfl
    | ⟨1, _⟩ => rfl
  have hw : d.window (ix1 k) 0 = 0 := by subst hd; rfl
  have hs : d.start (ix1 k) idx 0 = (idx (ix2 k 0)).toInt := by
    unfold ScatterDims.start
    rw [dif_pos hm, hsi]
  have hx := x.isLt
  unfold ScatterDims.resultIdx?
  constructor
  · intro e
    split at e
    · next h =>
      have h0 := (h 0).1
      have e0 : (d.start (ix1 k) idx 0 + (d.window (ix1 k) 0 : Int)).toNat = x.val :=
        congrArg Fin.val (congrFun (Option.some.inj e) 0)
      rw [hs, hw] at h0 e0
      omega
    · cases e
  · intro e
    have h : ∀ a : Fin 1, 0 ≤ d.start (ix1 k) idx a + (d.window (ix1 k) a : Int)
        ∧ d.start (ix1 k) idx a + (d.window (ix1 k) a : Int) < (((⟨1, ![N]⟩ : Shape).size a : Nat) : Int) := by
      intro a
      obtain rfl : a = 0 := Subsingleton.elim _ _
      rw [hs, hw, e]
      show (0 : Int) ≤ _ ∧ _ < (N : Int)
      omega
    rw [dif_pos h]
    refine congrArg some (funext fun a => Fin.ext ?_)
    match a with
    | ⟨0, _⟩ =>
      show (d.start (ix1 k) idx 0 + (d.window (ix1 k) 0 : Int)).toNat = x.val
      rw [hs, hw, e]
      omega

/-- An update entry of a scatter of rows lands at row `x`, column `c` exactly when its row's signed index is `x` and its own
    column is `c`. -/
theorem scatterRows_lands {N R C : Nat} (wf : ScatterDims.WF ⟨2, ![N, C]⟩ ⟨2, ![R, 1]⟩ ⟨2, ![R, C]⟩ [1] [0] [0] 1)
    (idx : IVec ⟨2, ![R, 1]⟩ 32) (k : Fin R) (c' : Fin C) (x : Fin N) (c : Fin C) :
    (⟨[1], [0], [0], 1, wf⟩ : ScatterDims ⟨2, ![N, C]⟩ ⟨2, ![R, 1]⟩ ⟨2, ![R, C]⟩).resultIdx? (ix2 k c') idx = some (ix2 x c)
      ↔ (idx (ix2 k 0)).toInt = (x.val : Int) ∧ c' = c := by
  generalize hd : (⟨[1], [0], [0], 1, wf⟩ : ScatterDims ⟨2, ![N, C]⟩ ⟨2, ![R, 1]⟩ ⟨2, ![R, C]⟩) = d
  have hm : (0 : Fin 2) ∈ d.scatterDimsToOperandDims := by subst hd; exact List.mem_singleton.mpr rfl
  have hm1 : (1 : Fin 2) ∉ d.scatterDimsToOperandDims := by subst hd; simp
  have hsi : d.siIdx (ix2 k c') ⟨d.scatterDimsToOperandDims.idxOf 0, List.idxOf_lt_length_iff.2 hm⟩ = ix2 k 0 := by
    subst hd
    funext b
    apply Fin.ext
    match b with
    | ⟨0, _⟩ => rfl
    | ⟨1, _⟩ => rfl
  have hw : d.window (ix2 k c') 0 = 0 := by subst hd; rfl
  have hw1 : d.window (ix2 k c') 1 = c'.val := by subst hd; rfl
  have hs : d.start (ix2 k c') idx 0 = (idx (ix2 k 0)).toInt := by
    unfold ScatterDims.start
    rw [dif_pos hm, hsi]
  have hs1 : d.start (ix2 k c') idx 1 = 0 := by
    unfold ScatterDims.start
    rw [dif_neg hm1]
  have hx := x.isLt
  have hc := c'.isLt
  unfold ScatterDims.resultIdx?
  constructor
  · intro e
    split at e
    · next h =>
      have h0 := (h 0).1
      have e0 : (d.start (ix2 k c') idx 0 + (d.window (ix2 k c') 0 : Int)).toNat = x.val :=
        congrArg Fin.val (congrFun (Option.some.inj e) 0)
      have e1 : (d.start (ix2 k c') idx 1 + (d.window (ix2 k c') 1 : Int)).toNat = c.val :=
        congrArg Fin.val (congrFun (Option.some.inj e) 1)
      rw [hs, hw] at h0 e0
      rw [hs1, hw1] at e1
      exact ⟨by omega, Fin.ext (by omega)⟩
    · cases e
  · rintro ⟨e, rfl⟩
    have h : ∀ a : Fin 2, 0 ≤ d.start (ix2 k c') idx a + (d.window (ix2 k c') a : Int)
        ∧ d.start (ix2 k c') idx a + (d.window (ix2 k c') a : Int) < (((⟨2, ![N, C]⟩ : Shape).size a : Nat) : Int) := by
      intro a
      match a with
      | ⟨0, _⟩ =>
        show 0 ≤ d.start (ix2 k c') idx 0 + (d.window (ix2 k c') 0 : Int)
          ∧ d.start (ix2 k c') idx 0 + (d.window (ix2 k c') 0 : Int) < (N : Int)
        rw [hs, hw, e]
        omega
      | ⟨1, _⟩ =>
        show 0 ≤ d.start (ix2 k c') idx 1 + (d.window (ix2 k c') 1 : Int)
          ∧ d.start (ix2 k c') idx 1 + (d.window (ix2 k c') 1 : Int) < (C : Int)
        rw [hs1, hw1]
        omega
    rw [dif_pos h]
    refine congrArg some (funext fun a => Fin.ext ?_)
    match a with
    | ⟨0, _⟩ =>
      show (d.start (ix2 k c') idx 0 + (d.window (ix2 k c') 0 : Int)).toNat = x.val
      rw [hs, hw, e]
      omega
    | ⟨1, _⟩ =>
      show (d.start (ix2 k c') idx 1 + (d.window (ix2 k c') 1 : Int)).toNat = c'.val
      rw [hs1, hw1]
      omega

/-- A sum over the indices of a vector is the sum over its coordinate. -/
theorem sum_idx1 {M : Type*} [AddCommMonoid M] {n : Nat} (f : (⟨1, ![n]⟩ : Shape).Idx → M) :
    ∑ i, f i = ∑ k : Fin n, f (ix1 k) :=
  Fintype.sum_equiv ⟨fun i => i 0, fun k => ix1 k, fun i => (eq_ix1 i).symm, fun _ => rfl⟩ _ _
    fun i => congrArg f (eq_ix1 i)

/-- The accumulating scatter of scalars into a vector: at `x`, the operand plus the updates whose index is `x`. -/
theorem scatterVec_apply {N R : Nat} (wf : ScatterDims.WF ⟨1, ![N]⟩ ⟨2, ![R, 1]⟩ ⟨1, ![R]⟩ [] [0] [0] 1)
    (v : (⟨1, ![N]⟩ : Shape).Idx → EReal) (idx : IVec ⟨2, ![R, 1]⟩ 32) (upd : (⟨1, ![R]⟩ : Shape).Idx → EReal) (x : Fin N) :
    Ideal.hostScatterAdd (⟨[], [0], [0], 1, wf⟩ : ScatterDims ⟨1, ![N]⟩ ⟨2, ![R, 1]⟩ ⟨1, ![R]⟩) v idx upd (ix1 x)
      = v (ix1 x) + ∑ k : Fin R, if (idx (ix2 k 0)).toInt = (x.val : Int) then upd (ix1 k) else 0 := by
  unfold Ideal.hostScatterAdd
  rw [Finset.sum_filter, sum_idx1]
  congr 1
  exact Finset.sum_congr rfl fun k _ => if_congr (scatterVec_lands wf idx k x) rfl rfl

/-- The accumulating scatter of rows into a table: at row `x` and column `c`, the operand plus that column of the update rows
    whose index is `x`. -/
theorem scatterRows_apply {N R C : Nat} (wf : ScatterDims.WF ⟨2, ![N, C]⟩ ⟨2, ![R, 1]⟩ ⟨2, ![R, C]⟩ [1] [0] [0] 1)
    (v : (⟨2, ![N, C]⟩ : Shape).Idx → EReal) (idx : IVec ⟨2, ![R, 1]⟩ 32) (upd : (⟨2, ![R, C]⟩ : Shape).Idx → EReal)
    (x : Fin N) (c : Fin C) :
    Ideal.hostScatterAdd (⟨[1], [0], [0], 1, wf⟩ : ScatterDims ⟨2, ![N, C]⟩ ⟨2, ![R, 1]⟩ ⟨2, ![R, C]⟩) v idx upd (ix2 x c)
      = v (ix2 x c) + ∑ k : Fin R, if (idx (ix2 k 0)).toInt = (x.val : Int) then upd (ix2 k c) else 0 := by
  unfold Ideal.hostScatterAdd
  rw [Finset.sum_filter, sum_idx2]
  congr 1
  refine Finset.sum_congr rfl fun k _ => ?_
  refine (Finset.sum_congr rfl fun c' _ => if_congr (scatterRows_lands wf idx k c' x c) rfl rfl).trans ?_
  by_cases h : (idx (ix2 k 0)).toInt = (x.val : Int)
  · simp [h]
  · simp [h]

/-! ## Folds of a maximum -/

/-- A fold of the maximum from the bottom over values none of which is the top, one of them a real, is a real. -/
theorem foldl_max_real {ι : Type*} (f : ι → EReal) (l : List ι) (htop : ∀ i ∈ l, f i ≠ ⊤) (i : ι) (hi : i ∈ l)
    (hbot : f i ≠ ⊥) : ∃ r : ℝ, l.foldl (fun a b => max a (f b)) ⊥ = (r : EReal) := by
  have top : ∀ (l : List ι) (z : EReal), z ≠ ⊤ → (∀ i ∈ l, f i ≠ ⊤) → l.foldl (fun a b => max a (f b)) z ≠ ⊤ := by
    intro l
    induction l with
    | nil => intro z hz _; exact hz
    | cons a l ih =>
      intro z hz h
      refine ih _ ?_ fun i hi => h i (List.mem_cons_of_mem _ hi)
      show max z (f a) ≠ ⊤
      rcases max_choice z (f a) with e | e
      · rw [e]; exact hz
      · rw [e]; exact h a List.mem_cons_self
  have le0 : ∀ (l : List ι) (z : EReal), z ≤ l.foldl (fun a b => max a (f b)) z := by
    intro l
    induction l with
    | nil => intro z; exact le_refl _
    | cons a l ih => intro z; exact le_trans (le_max_left _ _) (ih _)
  have le1 : ∀ (l : List ι) (z : EReal), i ∈ l → f i ≤ l.foldl (fun a b => max a (f b)) z := by
    intro l
    induction l with
    | nil => intro z h; cases h
    | cons a l ih =>
      intro z h
      rcases List.mem_cons.mp h with rfl | h
      · exact le_trans (le_max_right _ _) (le0 l _)
      · exact ih _ h
  refine ⟨(l.foldl (fun a b => max a (f b)) ⊥).toReal, (EReal.coe_toReal (top l ⊥ (by simp) htop) ?_).symm⟩
  intro h
  have := le1 l ⊥ hi
  rw [h] at this
  exact hbot (le_bot_iff.mp this)

/-- The host's maximum reduction from minus infinity is a real wherever no reduced entry is plus infinity and some reduced
    entry is a real. -/
theorem hostReduceMax_real {s t u : Shape} {axes : List (Fin s.rank)} (x : s.Idx → EReal) (init : u.Idx → EReal)
    (h : s.ReducesTo axes t) (hu : 0 < u.numel) (hinit : init (Shape.Idx.first hu) = ⊥) (j : t.Idx)
    (htop : ∀ i, h.drop i = j → x i ≠ ⊤) (i : s.Idx) (hi : h.drop i = j) (hbot : x i ≠ ⊥) :
    ∃ r : ℝ, Host.reduce (max : EReal → EReal → EReal) x init h hu j = (r : EReal) := by
  unfold Host.reduce
  rw [hinit]
  refine foldl_max_real (fun n => x (s.rowMajor.symm n)) _ ?_ (s.rowMajor i) ?_ ?_
  · intro n hn
    exact htop _ (of_decide_eq_true (List.mem_filter.mp hn).2)
  · exact List.mem_filter.mpr ⟨List.mem_finRange _, by simpa using hi⟩
  · simpa using hbot

/-- The vector unit's maximum reduction from minus infinity is a real wherever every reduced entry is a real and there is one. -/
theorem reduceMax_real {s t : Shape} {axes : List (Fin s.rank)} (x : s.Idx → EReal) (h : s.Reduces axes t) (init : EReal)
    (hinit : init = ⊥) (j : t.Idx) (htop : ∀ i, h.drop i = j → x i ≠ ⊤) (i : s.Idx) (hi : h.drop i = j) (hbot : x i ≠ ⊥) :
    ∃ r : ℝ, reduceFold h (max : EReal → EReal → EReal) init x j = (r : EReal) := by
  unfold reduceFold
  rw [hinit]
  refine foldl_max_real (fun n => x (s.rowMajor.symm n)) _ ?_ (s.rowMajor i) ?_ ?_
  · intro n hn
    exact htop _ (of_decide_eq_true (List.mem_filter.mp hn).2)
  · exact List.mem_filter.mpr ⟨List.mem_finRange _, by simpa using hi⟩
  · simpa using hbot

end Cert.Proof
-- ==== Proof.Spec.lean ====
/-
  The mathematics of one graph-attention layer over the reals, and the two ways of computing its weighted mean: with one
  global shift of the exponents, unnormalised, and with a shift per node, normalised edge by edge.
-/
module

public import Mathlib.Analysis.SpecialFunctions.Exp
public import Mathlib.Analysis.SpecialFunctions.Log.Basic
public import Mathlib.Algebra.BigOperators.Fin

@[expose] public section

noncomputable section

namespace Cert.Proof

open Finset

/-! ## The layer -/

/-- The slope below zero, the single-precision value nearest to 0.2. -/
def slope : ℝ := 13421773 / 67108864

/-- The small constant under the root, the single-precision value nearest to 0.00001. -/
def small : ℝ := 10995116 / 1099511627776

/-- The small number is positive. -/
theorem small_pos : 0 < small := by unfold small; norm_num

/-- The leaky rectifier. -/
def leak (t : ℝ) : ℝ := max t (slope * t)

/-- A graph's edges: for each the node it reads and the signed number of the node it arrives at (which may be no node). -/
structure Edges (E N : Nat) where
  src : Fin E → Fin N
  dst : Fin E → Int

/-- The product of two real matrices. -/
def prod {N K C : Nat} (x : Fin N → Fin K → ℝ) (w : Fin K → Fin C → ℝ) (n : Fin N) (c : Fin C) : ℝ := ∑ k, x n k * w k c

/-- The inner products of a matrix's rows with a vector. -/
def score {N C : Nat} (h : Fin N → Fin C → ℝ) (a : Fin C → ℝ) (n : Fin N) : ℝ := ∑ c, h n c * a c

/-- The total weight arriving at a node, its own included. -/
def total {E N : Nat} (G : Edges E N) (s d : Fin N → ℝ) (n : Fin N) : ℝ :=
  (∑ k, if G.dst k = (n.val : Int) then Real.exp (leak (s (G.src k) + d n)) else 0) + Real.exp (leak (s n + d n))

/-- The weighted mean of the rows arriving at a node, its own included. -/
def attend {E N C : Nat} (G : Edges E N) (h : Fin N → Fin C → ℝ) (s d : Fin N → ℝ) (n : Fin N) (c : Fin C) : ℝ :=
  ((∑ k, if G.dst k = (n.val : Int) then Real.exp (leak (s (G.src k) + d n)) * h (G.src k) c else 0)
    + Real.exp (leak (s n + d n)) * h n c) / total G s d n

/-- Bias and rectifier. -/
def activate {N C : Nat} (x : Fin N → Fin C → ℝ) (b : Fin C → ℝ) (n : Fin N) (c : Fin C) : ℝ := max (x n c + b c) 0

/-- A column's mean over ten thousand rows. -/
def mean {N C : Nat} (y : Fin N → Fin C → ℝ) (c : Fin C) : ℝ := (∑ n, y n c) * (1 / 10000)

/-- A column's variance over ten thousand rows. -/
def variance {N C : Nat} (y : Fin N → Fin C → ℝ) (c : Fin C) : ℝ := (∑ n, (y n c - mean y c) * (y n c - mean y c)) * (1 / 10000)

/-- The normalisation over the rows, scaled and shifted. -/
def normalise {N C : Nat} (y : Fin N → Fin C → ℝ) (g be : Fin C → ℝ) (n : Fin N) (c : Fin C) : ℝ :=
  (y n c - mean y c) * (Real.sqrt (variance y c + small))⁻¹ * g c + be c

/-- The rectified attention output of a layer. -/
def conv {E N K C : Nat} (G : Edges E N) (x : Fin N → Fin K → ℝ) (w : Fin K → Fin C → ℝ) (a a' b : Fin C → ℝ) :
    Fin N → Fin C → ℝ :=
  activate (attend G (prod x w) (score (prod x w) a) (score (prod x w) a')) b

/-- One layer. -/
def layer {E N K C : Nat} (G : Edges E N) (x : Fin N → Fin K → ℝ) (w : Fin K → Fin C → ℝ) (a a' b g be : Fin C → ℝ) :
    Fin N → Fin C → ℝ :=
  normalise (conv G x w a a' b) g be

/-- A variance is not negative. -/
theorem variance_nonneg {N C : Nat} (y : Fin N → Fin C → ℝ) (c : Fin C) : 0 ≤ variance y c := by
  unfold variance
  have : 0 ≤ ∑ n, (y n c - mean y c) * (y n c - mean y c) := Finset.sum_nonneg fun n _ => mul_self_nonneg _
  positivity

/-! ## The two ways of the weighted mean -/

/-- The total weight is positive. -/
theorem total_pos {E N : Nat} (G : Edges E N) (s d : Fin N → ℝ) (n : Fin N) : 0 < total G s d n := by
  unfold total
  refine add_pos_of_nonneg_of_pos (Finset.sum_nonneg fun k _ => ?_) (Real.exp_pos _)
  split
  · exact (Real.exp_pos _).le
  · exact le_refl _

/-- A masked sum of shifted exponentials is the unshifted one times the shift's factor. -/
theorem sum_shift {ι : Type*} [Fintype ι] (p : ι → Prop) [DecidablePred p] (e x : ι → ℝ) (m : ℝ) :
    (∑ k, if p k then Real.exp (e k - m) * x k else 0) = (∑ k, if p k then Real.exp (e k) * x k else 0) * Real.exp (-m) := by
  rw [Finset.sum_mul]
  refine Finset.sum_congr rfl fun k _ => ?_
  split
  · rw [sub_eq_add_neg, Real.exp_add]; ring
  · rw [zero_mul]

/-- The same without a second factor. -/
theorem sum_shift_one {ι : Type*} [Fintype ι] (p : ι → Prop) [DecidablePred p] (e : ι → ℝ) (m : ℝ) :
    (∑ k, if p k then Real.exp (e k - m) else 0) = (∑ k, if p k then Real.exp (e k) else 0) * Real.exp (-m) := by
  simpa using sum_shift p e (fun _ => 1) m

/-- The unnormalised total with every exponent shifted by one number. -/
def totalShift {E N : Nat} (G : Edges E N) (s d : Fin N → ℝ) (m : ℝ) (n : Fin N) : ℝ :=
  (∑ k, if G.dst k = (n.val : Int) then Real.exp (leak (s (G.src k) + d n) - m) else 0) + Real.exp (leak (s n + d n) - m)

/-- A common shift scales the sum of weights. -/
theorem totalShift_eq {E N : Nat} (G : Edges E N) (s d : Fin N → ℝ) (m : ℝ) (n : Fin N) :
    totalShift G s d m n = total G s d n * Real.exp (-m) := by
  unfold totalShift total
  rw [sum_shift_one, add_mul, sub_eq_add_neg, Real.exp_add]

/-- The shifted sum of weights does not vanish. -/
theorem totalShift_ne {E N : Nat} (G : Edges E N) (s d : Fin N → ℝ) (m : ℝ) (n : Fin N) : totalShift G s d m n ≠ 0 := by
  rw [totalShift_eq]
  exact (mul_pos (total_pos G s d n) (Real.exp_pos _)).ne'

/-- With one shift for all exponents, the quotient of the unnormalised sums is the weighted mean. -/
theorem attend_of_shift {E N C : Nat} (G : Edges E N) (h : Fin N → Fin C → ℝ) (s d : Fin N → ℝ) (m : ℝ) (n : Fin N) (c : Fin C) :
    ((∑ k, if G.dst k = (n.val : Int) then Real.exp (leak (s (G.src k) + d n) - m) * h (G.src k) c else 0)
      + Real.exp (leak (s n + d n) - m) * h n c) * (1 / totalShift G s d m n) = attend G h s d n c := by
  unfold attend
  rw [totalShift_eq, sum_shift, sub_eq_add_neg, Real.exp_add]
  have h1 := (total_pos G s d n).ne'
  have h2 := (Real.exp_pos (-m)).ne'
  field_simp

/-- A sum over a list of two parts is the sum of the sums over the parts. -/
theorem sum_two_parts {M : Type*} [AddCommMonoid M] {R E N : Nat} (hR : R = E + N) (f : Fin R → M) :
    ∑ k, f k = (∑ k : Fin E, f ⟨k.val, by omega⟩) + ∑ n : Fin N, f ⟨E + n.val, by omega⟩ := by
  subst hR
  rw [Fin.sum_univ_add]
  rfl

/-- A list of edges with a loop at each node appended. -/
structure Loops {E N R : Nat} (G : Edges E N) (G' : Edges R N) (hR : R = E + N) : Prop where
  src_edge : ∀ k : Fin E, G'.src ⟨k.val, by omega⟩ = G.src k
  dst_edge : ∀ k : Fin E, G'.dst ⟨k.val, by omega⟩ = G.dst k
  src_loop : ∀ n : Fin N, G'.src ⟨E + n.val, by omega⟩ = n
  dst_loop : ∀ n : Fin N, G'.dst ⟨E + n.val, by omega⟩ = (n.val : Int)

/-- A masked sum over the edges with loops is the one over the edges plus the node's own term. -/
theorem sum_loops {E N R : Nat} {G : Edges E N} {G' : Edges R N} {hR : R = E + N} (H : Loops G G' hR) (n : Fin N) (f : Fin N → ℝ) :
    (∑ k, if G'.dst k = (n.val : Int) then f (G'.src k) else 0)
      = (∑ k, if G.dst k = (n.val : Int) then f (G.src k) else 0) + f n := by
  rw [sum_two_parts hR]
  congr 1
  · refine Finset.sum_congr rfl fun k _ => ?_
    rw [H.src_edge, H.dst_edge]
  · rw [Finset.sum_eq_single n]
    · rw [H.src_loop, H.dst_loop, if_pos rfl]
    · intro i _ hi
      rw [H.dst_loop, if_neg]
      intro e
      exact hi (Fin.ext (by exact_mod_cast e))
    · intro h; exact absurd (Finset.mem_univ n) h

/-- The weight of an edge with the per-node shift, the node it arrives at read as `at'`. -/
def edgeWeight {R N : Nat} (G' : Edges R N) (at' : Fin R → Fin N) (s d m : Fin N → ℝ) (k : Fin R) : ℝ :=
  Real.exp (leak (s (G'.src k) + d (at' k)) - m (at' k))

/-- The weights arriving at a node, shifted per node. -/
def nodeTotal {R N : Nat} (G' : Edges R N) (at' : Fin R → Fin N) (s d m : Fin N → ℝ) (n : Fin N) : ℝ :=
  ∑ k, if G'.dst k = (n.val : Int) then edgeWeight G' at' s d m k else 0

/-- A node's own shift scales its sum of weights. -/
theorem nodeTotal_eq {E N R : Nat} {G : Edges E N} {G' : Edges R N} {hR : R = E + N} (H : Loops G G' hR)
    (at' : Fin R → Fin N) (hat : ∀ k n, G'.dst k = ((n : Fin N).val : Int) → at' k = n) (s d m : Fin N → ℝ) (n : Fin N) :
    nodeTotal G' at' s d m n = total G s d n * Real.exp (-m n) := by
  have e : nodeTotal G' at' s d m n
      = ∑ k, if G'.dst k = (n.val : Int) then Real.exp (leak (s (G'.src k) + d n) - m n) else 0 := by
    refine Finset.sum_congr rfl fun k _ => ?_
    split
    · next hk => unfold edgeWeight; rw [hat k n hk]
    · rfl
  rw [e, sum_shift_one]
  congr 1
  exact sum_loops H n fun i => Real.exp (leak (s i + d n))

/-- The sum of weights with a node's own shift is positive. -/
theorem nodeTotal_pos {E N R : Nat} {G : Edges E N} {G' : Edges R N} {hR : R = E + N} (H : Loops G G' hR)
    (at' : Fin R → Fin N) (hat : ∀ k n, G'.dst k = ((n : Fin N).val : Int) → at' k = n) (s d m : Fin N → ℝ) (n : Fin N) :
    0 < nodeTotal G' at' s d m n := by
  rw [nodeTotal_eq H at' hat]
  exact mul_pos (total_pos G s d n) (Real.exp_pos _)

/-- With a shift per node and every edge's weight divided by its node's total, the sum is the weighted mean. -/
theorem attend_of_nodes {E N R C : Nat} {G : Edges E N} {G' : Edges R N} {hR : R = E + N} (H : Loops G G' hR)
    (at' : Fin R → Fin N) (hat : ∀ k n, G'.dst k = ((n : Fin N).val : Int) → at' k = n)
    (h : Fin N → Fin C → ℝ) (s d m : Fin N → ℝ) (n : Fin N) (c : Fin C) :
    (∑ k, if G'.dst k = (n.val : Int) then
        h (G'.src k) c * (edgeWeight G' at' s d m k * (1 / nodeTotal G' at' s d m (at' k))) else 0)
      = attend G h s d n c := by
  have e : ∀ k, (if G'.dst k = (n.val : Int) then
        h (G'.src k) c * (edgeWeight G' at' s d m k * (1 / nodeTotal G' at' s d m (at' k))) else 0)
      = (if G'.dst k = (n.val : Int) then Real.exp (leak (s (G'.src k) + d n) - m n) * h (G'.src k) c else 0)
        * (1 / nodeTotal G' at' s d m n) := by
    intro k
    split
    · next hk => unfold edgeWeight; rw [hat k n hk]; ring
    · rw [zero_mul]
  rw [Finset.sum_congr rfl fun k _ => e k, ← Finset.sum_mul, sum_shift, nodeTotal_eq H at' hat]
  have e2 := sum_loops H n fun i => Real.exp (leak (s i + d n)) * h i c
  rw [e2]
  unfold attend
  have h1 := (total_pos G s d n).ne'
  have h2 := (Real.exp_pos (-m n)).ne'
  field_simp

/-! ## The last part -/

/-- A matrix product with a bias. -/
def affine {N K C : Nat} (x : Fin N → Fin K → ℝ) (w : Fin K → Fin C → ℝ) (b : Fin C → ℝ) (n : Fin N) (c : Fin C) : ℝ :=
  prod x w n c + b c

/-- The sum of the exponentials of a row shifted by one number is positive. -/
theorem sumexp_pos {C : Nat} (hC : 0 < C) (x : Fin C → ℝ) (m : ℝ) : 0 < ∑ c, Real.exp (x c - m) :=
  Finset.sum_pos (fun _ _ => Real.exp_pos _) ⟨⟨0, hC⟩, Finset.mem_univ _⟩

/-- The three linear maps after the last layer. -/
def logits {N K L C : Nat} (x : Fin N → Fin K → ℝ) (w : Fin K → Fin L → ℝ) (b : Fin L → ℝ) (w' : Fin L → Fin L → ℝ) (b' : Fin L → ℝ)
    (w'' : Fin L → Fin C → ℝ) (b'' : Fin C → ℝ) : Fin N → Fin C → ℝ :=
  affine (affine (activate (prod x w) b) w' b') w'' b''

/-- The logarithms of the normalised exponentials of each row. -/
def logSoft {N C : Nat} (x : Fin N → Fin C → ℝ) (n : Fin N) (c : Fin C) : ℝ := x n c - Real.log (∑ k, Real.exp (x n k))

/-- The logarithm of a row's sum of exponentials, all shifted by one number, is the unshifted one less the number. -/
theorem log_shift {C : Nat} (hC : 0 < C) (x : Fin C → ℝ) (m : ℝ) :
    Real.log (∑ c, Real.exp (x c - m)) = Real.log (∑ c, Real.exp (x c)) - m := by
  have h : ∑ c, Real.exp (x c - m) = (∑ c, Real.exp (x c)) * Real.exp (-m) := by
    rw [Finset.sum_mul]
    refine Finset.sum_congr rfl fun c _ => ?_
    rw [sub_eq_add_neg, Real.exp_add]
  have hp := sumexp_pos hC x 0
  simp only [sub_zero] at hp
  rw [h, Real.log_mul hp.ne' (Real.exp_pos _).ne', Real.log_exp]
  ring

end Cert.Proof

end
-- ==== Proof.Graph.lean ====
/-
  The edge list read as a graph, the node a wrapped and clamped number names, and the literals both programs share.
-/
module

public import proofs.«01_k».proof.Proof.Reading
public import proofs.«01_k».proof.Proof.Spec

@[expose] public section

noncomputable section

namespace Cert.Proof

open Idealize.ShloMosaic Idealize.ShloMosaic.ValueIdx

/-! ## Literals -/

/-- The word of the slope. -/
theorem lit_slope : Ideal.ofBits .f32 0x3E4CCCCD#32 = (slope : EReal) := by
  simp [Ideal.ofBits, Ideal.ieee, slope, -EReal.coe_mul]; norm_num

/-- The word of the small number under the root. -/
theorem lit_small : Ideal.ofBits .f32 0x3727C5AC#32 = (small : EReal) := by
  simp [Ideal.ofBits, Ideal.ieee, small, -EReal.coe_mul]; norm_num

/-- The word of the number of nodes. -/
theorem lit_rows : Ideal.ofBits .f32 0x461C4000#32 = ((10000 : ℝ) : EReal) := by
  simp [Ideal.ofBits, Ideal.ieee, -EReal.coe_mul]; norm_num

/-- The word of minus infinity is the bottom. -/
theorem lit_bot : Ideal.ofBits .f32 0xFF800000#32 = ⊥ := by
  simp [Ideal.ofBits, Ideal.ieee]

/-- The word of infinity is the top. -/
theorem lit_top : Ideal.ofBits .f32 0x7F800000#32 = ⊤ := by
  simp [Ideal.ofBits, Ideal.ieee]

/-! ## Node numbers -/

/-- A node number counted from the end when it is negative. -/
def wrap (w : BitVec 32) : BitVec 32 :=
  Scalar.select (IntOp.cmpi .slt w 0#32) (IntOp.addi w 10000#32) w

/-- The node a number names. -/
def node (w : BitVec 32) : Fin 10000 := rowOf 10000 (by decide) (wrap w)

/-- A number that is a node's names that node. -/
theorem node_of_toInt {w : BitVec 32} {n : Fin 10000} (h : w.toInt = (n.val : Int)) : node w = n := by
  have hs : IntOp.cmpi .slt w 0#32 = 0#1 := by
    have : w.slt 0#32 = false := by
      rw [BitVec.slt_eq_decide, h]
      simp
    simp [IntOp.cmpi, this]
  unfold node wrap
  rw [hs, select_zero]
  unfold rowOf
  refine Fin.ext ?_
  show min w.toInt.toNat (10000 - 1) = n.val
  rw [h]
  have := n.isLt
  simp
  omega

/-- The signed number of a node's own number. -/
theorem toInt_ofNat_node (n : Fin 10000) : (BitVec.ofNat 32 n.val).toInt = (n.val : Int) := by
  have := n.isLt
  rw [BitVec.toInt_eq_toNat_of_lt] <;> rw [BitVec.toNat_ofNat] <;> omega

/-- The graph of an edge list: row 0 holds the nodes read, row 1 the nodes arrived at. -/
def graph (e : IVec ⟨2, ![2, 320000]⟩ 32) : Edges 320000 10000 where
  src k := node (e (ix2 0 k))
  dst k := (e (ix2 1 k)).toInt

/-! ## The leaky rectifier -/

/-- The slope is positive. -/
theorem slope_pos : 0 < slope := by unfold slope; norm_num

/-- The slope is below one. -/
theorem slope_lt_one : slope < 1 := by unfold slope; norm_num

/-- The leaky rectifier keeps a number that is not negative. -/
theorem leak_of_nonneg {t : ℝ} (h : 0 ≤ t) : leak t = t := by
  unfold leak
  refine max_eq_left ?_
  nlinarith [slope_lt_one]

/-- The leaky rectifier scales a negative number. -/
theorem leak_of_neg {t : ℝ} (h : t < 0) : leak t = slope * t := by
  unfold leak
  refine max_eq_right ?_
  nlinarith [slope_lt_one]

/-- The choice by sign is the leaky rectifier. -/
theorem select_leak (t : ℝ) :
    Scalar.select (Ideal.cmp .oge (t : EReal) 0) (t : EReal) ((slope : EReal) * (t : EReal)) = ((leak t : ℝ) : EReal) := by
  rcases le_or_gt 0 t with h | h
  · have : Ideal.cmp .oge (t : EReal) 0 = 1#1 := by
      have h' : (0 : EReal) ≤ (t : EReal) := by exact_mod_cast h
      simp [Ideal.cmp, h']
    rw [this, select_one, leak_of_nonneg h]
  · have : Ideal.cmp .oge (t : EReal) 0 = 0#1 := by
      have h' : ¬ (0 : EReal) ≤ (t : EReal) := by
        rw [not_le]; exact_mod_cast h
      simp only [Ideal.cmp, decide_eq_false h']
      rfl
    rw [this, select_zero, leak_of_neg h, EReal.coe_mul]

end Cert.Proof

end
-- ==== Proof.RealOps.lean ====
/-
  The kernel's vector operations on arrays of reals: each gives again an array of reals.
-/
module

public import Idealize.ShloMosaic.Lib.MatmulPlain
public import proofs.«01_k».proof.Proof.Graph

@[expose] public section

noncomputable section

namespace Cert.Proof

open Idealize.ShloMosaic Idealize.ShloMosaic.ValueIdx

variable {A B C : Nat}

/-! ## Element by element -/

/-- Sums of real matrices. -/
theorem addf_arr2 (f g : Fin A → Fin B → ℝ) :
    addf (F := Ideal) (φ := .f32) (arr2 f) (arr2 g) = arr2 fun i j => f i j + g i j :=
  eq_arr2 fun i j => (EReal.coe_add (f i j) (g i j)).symm

/-- Differences of real matrices. -/
theorem subf_arr2 (f g : Fin A → Fin B → ℝ) :
    subf (F := Ideal) (φ := .f32) (arr2 f) (arr2 g) = arr2 fun i j => f i j - g i j :=
  eq_arr2 fun i j => (EReal.coe_sub (f i j) (g i j)).symm

/-- Products, entry by entry, of real matrices. -/
theorem mulf_arr2 (f g : Fin A → Fin B → ℝ) :
    mulf (F := Ideal) (φ := .f32) (arr2 f) (arr2 g) = arr2 fun i j => f i j * g i j :=
  eq_arr2 fun i j => (EReal.coe_mul (f i j) (g i j)).symm

/-- Maxima of real matrices. -/
theorem maximumf_arr2 (f g : Fin A → Fin B → ℝ) :
    maximumf (F := Ideal) (φ := .f32) (arr2 f) (arr2 g) = arr2 fun i j => max (f i j) (g i j) :=
  eq_arr2 fun i j => (coe_max_real (f i j) (g i j)).symm

/-- Exponentials of a real matrix. -/
theorem exp_arr2 (f : Fin A → Fin B → ℝ) :
    exp (F := Ideal) (φ := .f32) (arr2 f) = arr2 fun i j => Real.exp (f i j) :=
  eq_arr2 fun i j => Ideal.exp_coe (f i j)

/-- Quotients by a real matrix without zeros. -/
theorem divf_arr2 (f g : Fin A → Fin B → ℝ) (hg : ∀ i j, g i j ≠ 0) :
    divf (F := Ideal) (φ := .f32) (arr2 f) (arr2 g) = arr2 fun i j => f i j * (1 / g i j) :=
  eq_arr2 fun i j => (Ideal.div_coe (hg i j) _).trans (EReal.coe_mul (f i j) (1 / g i j)).symm

/-- Logarithms of a positive matrix. -/
theorem log_arr2 (f : Fin A → Fin B → ℝ) (hf : ∀ i j, 0 < f i j) :
    log (F := Ideal) (φ := .f32) (arr2 f) = arr2 fun i j => Real.log (f i j) :=
  eq_arr2 fun i j => (Ideal.log_coe (f i j)).trans (if_neg (not_le.mpr (hf i j)))

/-- Inverse roots of a positive matrix. -/
theorem rsqrt_arr2 (f : Fin A → Fin B → ℝ) (hf : ∀ i j, 0 < f i j) :
    rsqrt (F := Ideal) (φ := .f32) (arr2 f) = arr2 fun i j => (Real.sqrt (f i j))⁻¹ :=
  eq_arr2 fun i j => (Ideal.rsqrt_coe (f i j)).trans (by rw [if_neg (not_lt.mpr (hf i j).le), if_neg (hf i j).ne'])

/-! ## Constants spread over an array -/

/-- A real in every entry. -/
theorem spread_real (r : ℝ) : broadcast (⟨2, ![A, B]⟩ : Shape) (r : EReal) = arr2 fun (_ : Fin A) (_ : Fin B) => r := rfl

/-- The slope in every entry. -/
theorem spread_slope : broadcast (⟨2, ![A, B]⟩ : Shape) (Scalar.ofBits (F := Ideal) .f32 0x3E4CCCCD#32)
    = arr2 fun (_ : Fin A) (_ : Fin B) => slope := eq_arr2 fun _ _ => lit_slope

/-- The small number in every entry. -/
theorem spread_small : broadcast (⟨2, ![A, B]⟩ : Shape) (Scalar.ofBits (F := Ideal) .f32 0x3727C5AC#32)
    = arr2 fun (_ : Fin A) (_ : Fin B) => small := eq_arr2 fun _ _ => lit_small

/-- The number of nodes in every entry. -/
theorem spread_rows : broadcast (⟨2, ![A, B]⟩ : Shape) (Scalar.ofBits (F := Ideal) .f32 0x461C4000#32)
    = arr2 fun (_ : Fin A) (_ : Fin B) => (10000 : ℝ) := eq_arr2 fun _ _ => lit_rows

/-- Zero in every entry. -/
theorem spread_zero : broadcast (⟨2, ![A, B]⟩ : Shape) (Scalar.ofBits (F := Ideal) .f32 0x00000000#32)
    = arr2 fun (_ : Fin A) (_ : Fin B) => (0 : ℝ) := eq_arr2 fun _ _ => Ideal.ofBits_zero_f32

/-! ## Layouts -/

/-- A vector as a row. -/
theorem cast_row (f : Fin B → ℝ) (h : (⟨1, ![B]⟩ : Shape).ShapeCasts ⟨2, ![1, B]⟩) :
    shapeCast (⟨2, ![1, B]⟩ : Shape) (arr1 f) h = arr2 fun _ j => f j := by
  refine eq_arr2 fun i j => shapeCast_apply _ h _ (ix1 j) ?_
  rw [Shape.rowMajor_val_one, Shape.rowMajor_val_two]
  have := i.isLt
  show j.val = i.val * B + j.val
  have : i.val = 0 := by omega
  rw [this]; omega

/-- A vector as a column. -/
theorem cast_col (f : Fin A → ℝ) (h : (⟨1, ![A]⟩ : Shape).ShapeCasts ⟨2, ![A, 1]⟩) :
    shapeCast (⟨2, ![A, 1]⟩ : Shape) (arr1 f) h = arr2 fun i _ => f i := by
  refine eq_arr2 fun i j => shapeCast_apply _ h _ (ix1 i) ?_
  rw [Shape.rowMajor_val_one, Shape.rowMajor_val_two]
  have := j.isLt
  show i.val = i.val * 1 + j.val
  omega

/-- A row in every row. -/
theorem spread_row (hB : B ≠ 1) (f : Fin 1 → Fin B → ℝ) (h : (⟨2, ![1, B]⟩ : Shape).Broadcasts ⟨2, ![A, B]⟩) :
    broadcastTo (⟨2, ![A, B]⟩ : Shape) (arr2 f) h = arr2 fun _ j => f 0 j := by
  refine eq_arr2 fun i j => broadcastTo_apply _ h _ (ix2 0 j) fun a => ?_
  match a with
  | ⟨0, _⟩ => exact (if_pos rfl).symm
  | ⟨1, _⟩ => exact (if_neg hB).symm

/-- A column in every column. -/
theorem spread_col (hA : A ≠ 1) (f : Fin A → Fin 1 → ℝ) (h : (⟨2, ![A, 1]⟩ : Shape).Broadcasts ⟨2, ![A, B]⟩) :
    broadcastTo (⟨2, ![A, B]⟩ : Shape) (arr2 f) h = arr2 fun i _ => f i 0 := by
  refine eq_arr2 fun i j => broadcastTo_apply _ h _ (ix2 i 0) fun a => ?_
  match a with
  | ⟨0, _⟩ => exact (if_neg hA).symm
  | ⟨1, _⟩ => exact (if_pos rfl).symm

/-! ## Sums and products -/

/-- The sums of the rows. -/
theorem sum_rows (f : Fin A → Fin B → ℝ) (h : (⟨2, ![A, B]⟩ : Shape).Reduces [1] ⟨1, ![A]⟩) :
    multiReduction (F := Ideal) (φ := .f32) .add [1] (⟨1, ![A]⟩ : Shape) (arr2 f) 0x00000000#32 h (.inl rfl) rfl = arr1 fun i => ∑ j, f i j := by
  refine eq_arr1 fun i => ?_
  refine (Ideal.multiReduction_add_single _ _ _ _ _ _).trans ?_
  rw [coe_sum_real]
  rfl

/-- The sums of the columns. -/
theorem sum_cols (f : Fin A → Fin B → ℝ) (h : (⟨2, ![A, B]⟩ : Shape).Reduces [0] ⟨1, ![B]⟩) :
    multiReduction (F := Ideal) (φ := .f32) .add [0] (⟨1, ![B]⟩ : Shape) (arr2 f) 0x00000000#32 h (.inl rfl) rfl = arr1 fun j => ∑ i, f i j := by
  refine eq_arr1 fun j => ?_
  refine (Ideal.multiReduction_add_single _ _ _ _ _ _).trans ?_
  rw [coe_sum_real]
  rfl

/-- The product of two real matrices. -/
theorem matmul_arr2 (x : Fin A → Fin B → ℝ) (w : Fin B → Fin C → ℝ) :
    matmul (F := Ideal) (φ₁ := .f32) (φ₂ := .f32) (DotDims.plain A B C) none (arr2 x) (arr2 w)
      (constant (F := Ideal) ⟨2, ![A, C]⟩ .f32 0x00000000#32) = arr2 (prod x w) := by
  refine eq_arr2 fun i j => ?_
  refine (Ideal.matmul_plain_apply none _ _ _ i j).trans ?_
  unfold prod
  rw [coe_sum_real]
  refine (congrArg (· + _) Ideal.ofBits_zero_f32).trans ((zero_add _).trans ?_)
  simp only [EReal.coe_mul]
  rfl

/-! ## Maxima -/

/-- The maxima of the rows are reals. -/
theorem max_rows (hB : 0 < B) (f : Fin A → Fin B → ℝ) (h : (⟨2, ![A, B]⟩ : Shape).Reduces [1] ⟨1, ![A]⟩)
    (hφ : FKind.Formats .f32) (hacc : (0xFF800000#32 : BitVec 32) = FKind.maximumf.neutral .f32 hφ) :
    ∃ m : Fin A → ℝ,
      multiReduction (F := Ideal) (φ := .f32) .maximumf [1] (⟨1, ![A]⟩ : Shape) (arr2 f) 0xFF800000#32 h hφ hacc = arr1 m := by
  have : ∀ i : Fin A, ∃ r : ℝ,
      multiReduction (F := Ideal) (φ := .f32) .maximumf [1] (⟨1, ![A]⟩ : Shape) (arr2 f) 0xFF800000#32 h hφ hacc (ix1 i) = (r : EReal) := by
    intro i
    rw [multiReduction_maximumf_eq_reduceFold]
    exact reduceMax_real _ h _ lit_bot (ix1 i) (fun _ _ => EReal.coe_ne_top _) (h.lift (ix1 i) ⟨0, hB⟩) (h.drop_lift _ _) (EReal.coe_ne_bot _)
  choose m hm using this
  exact ⟨m, eq_arr1 hm⟩

/-- The largest entry of a column of reals is a real. -/
theorem max_all (f : Fin A → Fin 1 → ℝ) (hA : 0 < A) (h : (⟨2, ![A, 1]⟩ : Shape).ShapeCasts ⟨3, ![1, A, 1]⟩)
    (hr : (⟨3, ![1, A, 1]⟩ : Shape).Reduces [1, 2] ⟨1, ![1]⟩) (hφ : FKind.Formats .f32)
    (hacc : (0xFF800000#32 : BitVec 32) = FKind.maximumf.neutral .f32 hφ)
    (h1 : (⟨1, ![1]⟩ : Shape).ShapeCasts ⟨3, ![1, 1, 1]⟩) (p : Fin 3 → Nat) (hp : ∀ a, p a < (⟨3, ![1, 1, 1]⟩ : Shape).size a) :
    ∃ r : ℝ, extractAt p (shapeCast (⟨3, ![1, 1, 1]⟩ : Shape)
      (multiReduction (F := Ideal) (φ := .f32) .maximumf [1, 2] (⟨1, ![1]⟩ : Shape)
        (shapeCast (⟨3, ![1, A, 1]⟩ : Shape) (arr2 f) h) 0xFF800000#32 hr hφ hacc) h1) hp = (r : EReal) := by
  rw [multiReduction_maximumf_eq_reduceFold]
  refine reduceMax_real _ hr _ lit_bot _ (fun i _ => EReal.coe_ne_top _) (ix3 0 ⟨0, hA⟩ 0) ?_ (EReal.coe_ne_bot _)
  funext a
  match a with
  | ⟨0, _⟩ => exact Subsingleton.elim (α := Fin 1) _ _

end Cert.Proof

end
-- ==== Proof.KernelPay.lean ====
/-
  What the kernel's regions compute among the reals.
-/
module

public import proofs.«01_k».proof.Proof.Gen.KernelIdeal.Skeleton
public import proofs.«01_k».proof.Proof.RealOps

@[expose] public section

noncomputable section

namespace Cert.Proof

open Idealize.ShloMosaic Idealize.ShloMosaic.ValueIdx Cert.KernelIdeal Cert.KernelIdeal.Gen

/-! ## The printed matrix products -/

/-- A call's product with a square matrix is the real product. -/
theorem matmul_square (x : Fin 10000 → Fin 128 → ℝ) (w : Fin 128 → Fin 128 → ℝ) :
    matmul (F := Ideal) (φ₁ := .f32) (φ₂ := .f32) dot_S10000x128_S128x128_S10000x128_1_0_0_1_n_n none (arr2 x) (arr2 w)
      (constant (F := Ideal) S10000x128 .f32 0x00000000#32) = arr2 (prod x w) := matmul_arr2 x w

/-- A call's product with the last matrix is the real product. -/
theorem matmul_last (x : Fin 10000 → Fin 128 → ℝ) (w : Fin 128 → Fin 40 → ℝ) :
    matmul (F := Ideal) (φ₁ := .f32) (φ₂ := .f32) dot_S10000x128_S128x40_S10000x40_1_0_0_1_n_n none (arr2 x) (arr2 w)
      (constant (F := Ideal) S10000x40 .f32 0x00000000#32) = arr2 (prod x w) := matmul_arr2 x w

/-! ## The printed sums -/

/-- A call's sum over the features. -/
theorem sum_features (f : Fin 10000 → Fin 128 → ℝ) :
    multiReduction (F := Ideal) (φ := .f32) .add [1] S10000 (arr2 f : FVec Ideal S10000x128 .f32) 0x00000000#32 reduces_S10000x128_S10000 (.inl rfl) rfl
      = arr1 fun i => ∑ j, f i j := sum_rows f _

/-- A call's sum over the nodes. -/
theorem sum_nodes (f : Fin 10000 → Fin 128 → ℝ) :
    multiReduction (F := Ideal) (φ := .f32) .add [0] S128 (arr2 f : FVec Ideal S10000x128 .f32) 0x00000000#32 reduces_S10000x128_S128 (.inl rfl) rfl
      = arr1 fun j => ∑ i, f i j := sum_cols f _

/-- A call's sum over the parts of the weights' sums. -/
theorem sum_parts (f : Fin 16 → Fin 10000 → ℝ) :
    multiReduction (F := Ideal) (φ := .f32) .add [0] S10000 (arr2 f : FVec Ideal S16x10000 .f32) 0x00000000#32 reduces_S16x10000_S10000 (.inl rfl) rfl
      = arr1 fun j => ∑ i, f i j := sum_cols f _

/-- A call's sum over the classes. -/
theorem sum_classes (f : Fin 10000 → Fin 40 → ℝ) :
    multiReduction (F := Ideal) (φ := .f32) .add [1] S10000 (arr2 f : FVec Ideal S10000x40 .f32) 0x00000000#32 reduces_S10000x40_S10000 (.inl rfl) rfl
      = arr1 fun i => ∑ j, f i j := sum_rows f _

/-- A vector as a column. -/
def col {N : Nat} (f : Fin N → ℝ) (n : Fin N) (_ : Fin 1) : ℝ := f n

/-! ## The first region -/

/-- The first call stores the product. -/
theorem k0_h (x : Fin 10000 → Fin 128 → ℝ) (w : Fin 128 → Fin 128 → ℝ) :
    k0_pay1 (F := Ideal) (arr2 x) (arr2 w) = arr2 (prod x w) := matmul_square x w

/-- The first call stores the nodes' scores as first ends. -/
theorem k0_s (x : Fin 10000 → Fin 128 → ℝ) (w : Fin 128 → Fin 128 → ℝ) (a : Fin 128 → ℝ) :
    k0_pay2 (F := Ideal) (arr2 x) (arr2 w) (arr1 a) = arr2 (col (score (prod x w) a)) := by
  unfold k0_pay2
  rw [k0_h]
  simp only [cast_row, spread_row (by decide : 128 ≠ 1), mulf_arr2]
  erw [sum_features]
  rw [cast_col]
  rfl

/-- The first call stores the nodes' scores as second ends. -/
theorem k0_d (x : Fin 10000 → Fin 128 → ℝ) (w : Fin 128 → Fin 128 → ℝ) (a : Fin 128 → ℝ) :
    k0_pay3 (F := Ideal) (arr2 x) (arr2 w) (arr1 a) = arr2 (col (score (prod x w) a)) := by
  unfold k0_pay3
  rw [k0_h]
  simp only [cast_row, spread_row (by decide : 128 ≠ 1), mulf_arr2]
  erw [sum_features]
  rw [cast_col]
  rfl

/-- The shift of the exponents, from two columns of reals, is one real. -/
theorem shift_real (s d : Fin 10000 → Fin 1 → ℝ) : ∃ m : ℝ, k1_pay1 (F := Ideal) (arr2 s) (arr2 d) = arr2 fun _ _ => m := by
  obtain ⟨p, hp⟩ := max_all s (by decide) shapeCasts_S10000x1_S1x10000x1 reduces_S1x10000x1_S1 (.inl rfl) rfl shapeCasts_S1_S1x1x1
    ![0, 0, 0] inpos_S1x1x1_p0_0_0
  obtain ⟨q, hq⟩ := max_all d (by decide) shapeCasts_S10000x1_S1x10000x1 reduces_S1x10000x1_S1 (.inl rfl) rfl shapeCasts_S1_S1x1x1
    ![0, 0, 0] inpos_S1x1x1_p0_0_0
  refine ⟨max (p + q) (slope * (p + q)), eq_arr2 fun i j => ?_⟩
  unfold k1_pay1
  rw [hp, hq, coe_max_real, EReal.coe_mul, EReal.coe_add, ← lit_slope]
  rfl

/-- The first call stores one real shift. -/
theorem k0_shift (x : Fin 10000 → Fin 128 → ℝ) (w : Fin 128 → Fin 128 → ℝ) (a a' : Fin 128 → ℝ) :
    ∃ m : ℝ, k0_pay4 (F := Ideal) (arr2 x) (arr2 w) (arr1 a) (arr1 a') = arr2 fun _ _ => m := by
  obtain ⟨m, hm⟩ := shift_real (col (score (prod x w) a)) (col (score (prod x w) a'))
  refine ⟨m, Eq.trans ?_ hm⟩
  rw [← k0_s, ← k0_d]
  rfl

/-! ## The later regions -/

/-- The two halves of the columns side by side. -/
def halves {N : Nat} (lo hi : Fin N → Fin 64 → ℝ) (n : Fin N) (c : Fin 128) : ℝ :=
  if h : c.val < 64 then lo n ⟨c.val, h⟩ else hi n ⟨c.val - 64, by omega⟩

/-- Two halves of the features side by side. -/
theorem concat_halves (lo hi : Fin 10000 → Fin 64 → ℝ) :
    concatenate S10000x128 1 [⟨S10000x64, arr2 lo⟩, ⟨S10000x64, arr2 hi⟩] concatenates_S10000x64_S10000x64_S10000x128_d1 = arr2 (halves lo hi) := by
  refine eq_arr2 fun n c => ?_
  unfold halves
  split
  · next h =>
    refine concatenate_pair_apply_left 1 _ _ concatenates_S10000x64_S10000x64_S10000x128_d1 _ rfl (ix2 n ⟨c.val, h⟩) fun b => ?_
    match b with
    | ⟨0, _⟩ => rfl
    | ⟨1, _⟩ => rfl
  · next h =>
    refine concatenate_pair_apply_right 1 _ _ concatenates_S10000x64_S10000x64_S10000x128_d1 _ rfl rfl (ix2 n ⟨c.val - 64, by omega⟩) (fun b hb => ?_) ?_
    · match b with
      | ⟨0, _⟩ => rfl
      | ⟨1, _⟩ => exact absurd rfl hb
    · show c.val - 64 + 64 = c.val
      omega

/-- Two halves of the features, each first laid out as it is, side by side. -/
theorem concat_cast_halves (lo hi : Fin 10000 → Fin 64 → ℝ) :
    concatenate S10000x128 1 [⟨S10000x64, shapeCast S10000x64 (arr2 lo) shapeCasts_S10000x64_S10000x64⟩,
      ⟨S10000x64, shapeCast S10000x64 (arr2 hi) shapeCasts_S10000x64_S10000x64⟩] concatenates_S10000x64_S10000x64_S10000x128_d1
      = arr2 (halves lo hi) :=
  (congrArg₂ (fun x y => concatenate (α := EReal) S10000x128 1 [⟨S10000x64, x⟩, ⟨S10000x64, y⟩] concatenates_S10000x64_S10000x64_S10000x128_d1)
    (shapeCast_self _ _) (shapeCast_self _ _)).trans (concat_halves lo hi)

/-- A middle call's rows, from any sums of weights that do not vanish. -/
theorem pay2_real (m : ℝ) (s d : Fin 10000 → Fin 1 → ℝ) (z : Fin 16 → Fin 10000 → ℝ) (h : Fin 10000 → Fin 128 → ℝ)
    (lo hi : Fin 10000 → Fin 64 → ℝ) (b : Fin 128 → ℝ)
    (hz : ∀ n, (∑ p, z p n) + Real.exp (leak (s n 0 + d n 0) - m) ≠ 0) :
    k1_pay2 (F := Ideal) (arr2 fun _ _ => m) (arr2 s) (arr2 d) (arr2 z) (arr2 h) (arr2 lo) (arr2 hi) (arr1 b)
      = arr2 (activate (fun n c => (halves lo hi n c + Real.exp (leak (s n 0 + d n 0) - m) * h n c)
          * (1 / ((∑ p, z p n) + Real.exp (leak (s n 0 + d n 0) - m)))) b) := by
  unfold k1_pay2
  have hv : extractAt ![0, 0] (arr2 fun (_ : Fin 1) (_ : Fin 1) => m) inpos_S1x1_p0_0 = (m : EReal) := rfl
  simp only [hv, shapeCast_self, spread_slope, spread_real, addf_arr2, mulf_arr2, maximumf_arr2, subf_arr2, exp_arr2, concat_cast_halves,
    spread_col (by decide : 10000 ≠ 1), cast_row, spread_row (by decide : 128 ≠ 1), spread_zero]
  erw [sum_parts]
  simp only [cast_col, addf_arr2, spread_col (by decide : 10000 ≠ 1)]
  erw [divf_arr2 _ _ fun n _ => hz n]
  simp only [addf_arr2, maximumf_arr2]
  rfl

/-- With the sums over the edges as its inputs, a later region's first value is the rectified weighted mean. -/
theorem pay2_conv {E : Nat} (G : Edges E 10000) (m : ℝ) (s d : Fin 10000 → ℝ) (z : Fin 16 → Fin 10000 → ℝ) (h : Fin 10000 → Fin 128 → ℝ)
    (lo hi : Fin 10000 → Fin 64 → ℝ) (b : Fin 128 → ℝ)
    (hz : ∀ n : Fin 10000, (∑ p, z p n) = ∑ k, if G.dst k = (n.val : Int) then Real.exp (leak (s (G.src k) + d n) - m) else 0)
    (hn : ∀ n c, halves lo hi n c
      = ∑ k, if G.dst k = (n.val : Int) then Real.exp (leak (s (G.src k) + d n) - m) * h (G.src k) c else 0) :
    k1_pay2 (F := Ideal) (arr2 fun _ _ => m) (arr2 (col s)) (arr2 (col d)) (arr2 z) (arr2 h) (arr2 lo) (arr2 hi) (arr1 b)
      = arr2 (activate (attend G h s d) b) := by
  have ht : ∀ n, (∑ p, z p n) + Real.exp (leak (col s n 0 + col d n 0) - m) = totalShift G s d m n := fun n => by
    rw [hz]; rfl
  rw [pay2_real _ _ _ _ _ _ _ _ fun n => by rw [ht]; exact totalShift_ne G s d m n]
  congr 2
  funext n c
  rw [ht, hn]
  exact attend_of_shift G h s d m n c

/-- A call's means are the real means. -/
theorem mean_real (y : Fin 10000 → Fin 128 → ℝ) :
    divf (F := Ideal) (φ := .f32) (shapeCast S1x128 (multiReduction (F := Ideal) (φ := .f32) .add [0] S128 (arr2 y) 0x00000000#32
      reduces_S10000x128_S128 (.inl rfl) rfl) shapeCasts_S128_S1x128) (broadcast S1x128 (Scalar.ofBits (F := Ideal) .f32 0x461C4000#32))
      = arr2 fun _ c => mean y c := by
  erw [sum_nodes]
  rw [cast_row, spread_rows, divf_arr2 _ _ fun _ _ => by norm_num]
  rfl

/-- The normalised rows, as both later kinds of region compute them. -/
def normed (v35 : FVec Ideal S10000x128 .f32) (v39 : FVec Ideal S1x128 .f32) (v54 v58 : Vec Ideal S128 .f32) : FVec Ideal S10000x128 .f32 :=
  addf (mulf (mulf (subf v35 (broadcastTo S10000x128 v39 broadcasts_S1x128_S10000x128))
    (broadcastTo S10000x128 (rsqrt (addf (divf (shapeCast S1x128 (multiReduction .add [0] S128
        (mulf (subf v35 (broadcastTo S10000x128 v39 broadcasts_S1x128_S10000x128)) (subf v35 (broadcastTo S10000x128 v39 broadcasts_S1x128_S10000x128)))
        0x00000000#32 reduces_S10000x128_S128 (.inl rfl) rfl) shapeCasts_S128_S1x128) (broadcast S1x128 (Scalar.ofBits .f32 0x461C4000#32)))
      (broadcast S1x128 (Scalar.ofBits .f32 0x3727C5AC#32)))) broadcasts_S1x128_S10000x128))
    (broadcastTo S10000x128 (shapeCast S1x128 v54 shapeCasts_S128_S1x128) broadcasts_S1x128_S10000x128))
    (broadcastTo S10000x128 (shapeCast S1x128 v58 shapeCasts_S128_S1x128) broadcasts_S1x128_S10000x128)

/-- A call's normalised rows are the real ones. -/
theorem normed_real (y : Fin 10000 → Fin 128 → ℝ) (g be : Fin 128 → ℝ) :
    normed (arr2 y) (arr2 fun _ c => mean y c) (arr1 g) (arr1 be) = arr2 (normalise y g be) := by
  unfold normed
  simp only [spread_row (by decide : 128 ≠ 1), subf_arr2, mulf_arr2, cast_row, spread_rows, spread_small]
  erw [sum_nodes]
  rw [cast_row, divf_arr2 _ _ fun _ _ => by norm_num]
  simp only [addf_arr2]
  rw [rsqrt_arr2 _ fun _ c => by
    have := variance_nonneg y c
    have hs := small_pos
    unfold variance at this
    linarith]
  simp only [spread_row (by decide : 128 ≠ 1), mulf_arr2, addf_arr2]
  rfl

/-- A middle call stores the next layer's product. -/
theorem pay4_real (y : Fin 10000 → Fin 128 → ℝ) (g be : Fin 128 → ℝ) (w : Fin 128 → Fin 128 → ℝ) :
    k1_pay4 (F := Ideal) (arr2 y) (arr2 fun _ c => mean y c) (arr1 g) (arr1 be) (arr2 w) = arr2 (prod (normalise y g be) w) := by
  rw [← matmul_square, ← normed_real]
  rfl

/-- A middle call stores the next layer's scores as first ends. -/
theorem pay5_real (y : Fin 10000 → Fin 128 → ℝ) (g be : Fin 128 → ℝ) (w : Fin 128 → Fin 128 → ℝ) (a : Fin 128 → ℝ) :
    k1_pay5 (F := Ideal) (arr2 y) (arr2 fun _ c => mean y c) (arr1 g) (arr1 be) (arr2 w) (arr1 a)
      = arr2 (col (score (prod (normalise y g be) w) a)) := by
  unfold k1_pay5
  rw [pay4_real]
  simp only [cast_row, spread_row (by decide : 128 ≠ 1), mulf_arr2]
  erw [sum_features]
  rw [cast_col]
  rfl

/-- A middle call stores the next layer's scores as second ends. -/
theorem pay6_real (y : Fin 10000 → Fin 128 → ℝ) (g be : Fin 128 → ℝ) (w : Fin 128 → Fin 128 → ℝ) (a : Fin 128 → ℝ) :
    k1_pay6 (F := Ideal) (arr2 y) (arr2 fun _ c => mean y c) (arr1 g) (arr1 be) (arr2 w) (arr1 a)
      = arr2 (col (score (prod (normalise y g be) w) a)) := by
  unfold k1_pay6
  rw [pay4_real]
  simp only [cast_row, spread_row (by decide : 128 ≠ 1), mulf_arr2]
  erw [sum_features]
  rw [cast_col]
  rfl

/-! ## The last region -/

/-- The last call's three linear maps. -/
theorem k4_logits (y : Fin 10000 → Fin 128 → ℝ) (g be : Fin 128 → ℝ) (w w' : Fin 128 → Fin 128 → ℝ) (b b' : Fin 128 → ℝ)
    (w'' : Fin 128 → Fin 40 → ℝ) (b'' : Fin 40 → ℝ) :
    k4_pay4 (F := Ideal) (arr2 y) (arr2 fun _ c => mean y c) (arr1 g) (arr1 be) (arr2 w) (arr1 b) (arr2 w') (arr1 b') (arr2 w'') (arr1 b'')
      = arr2 (logits (normalise y g be) w b w' b' w'' b'') := by
  have e : k4_pay4 (F := Ideal) (arr2 y) (arr2 fun _ c => mean y c) (arr1 g) (arr1 be) (arr2 w) (arr1 b) (arr2 w') (arr1 b') (arr2 w'') (arr1 b'')
      = addf (matmul dot_S10000x128_S128x40_S10000x40_1_0_0_1_n_n none
          (addf (matmul dot_S10000x128_S128x128_S10000x128_1_0_0_1_n_n none
            (maximumf (addf (matmul dot_S10000x128_S128x128_S10000x128_1_0_0_1_n_n none
                (normed (arr2 y) (arr2 fun _ c => mean y c) (arr1 g) (arr1 be)) (arr2 w) (constant S10000x128 .f32 0x00000000#32))
              (broadcastTo S10000x128 (shapeCast S1x128 (arr1 b) shapeCasts_S128_S1x128) broadcasts_S1x128_S10000x128))
              (broadcast S10000x128 (Scalar.ofBits .f32 0x00000000#32))) (arr2 w') (constant S10000x128 .f32 0x00000000#32))
            (broadcastTo S10000x128 (shapeCast S1x128 (arr1 b') shapeCasts_S128_S1x128) broadcasts_S1x128_S10000x128))
          (arr2 w'') (constant S10000x40 .f32 0x00000000#32))
        (broadcastTo S10000x40 (shapeCast S1x40 (arr1 b'') shapeCasts_S40_S1x40) broadcasts_S1x40_S10000x40) := rfl
  rw [e, normed_real, matmul_square, spread_zero, cast_row, cast_row, cast_row, spread_row (by decide : 128 ≠ 1),
    spread_row (by decide : 128 ≠ 1), spread_row (by decide : 40 ≠ 1), addf_arr2, maximumf_arr2, matmul_square, addf_arr2, matmul_last, addf_arr2]
  rfl

/-- The last call stores the logarithms of the normalised exponentials. -/
theorem k4_soft (x : Fin 10000 → Fin 40 → ℝ) : k4_pay1 (F := Ideal) (arr2 x) = arr2 (logSoft x) := by
  obtain ⟨m, hm⟩ := max_rows (by decide) x reduces_S10000x40_S10000 (.inl rfl) rfl
  unfold k4_pay1
  rw [hm]
  simp only [cast_col, spread_col (by decide : 10000 ≠ 1), subf_arr2, exp_arr2]
  erw [sum_classes]
  rw [cast_col, log_arr2 _ fun n _ => sumexp_pos (by decide) (x n) (m n)]
  simp only [addf_arr2, spread_col (by decide : 10000 ≠ 1), subf_arr2]
  congr 1
  funext n c
  rw [log_shift (by decide)]
  unfold logSoft
  ring

end Cert.Proof

end
-- ==== Proof.KernelRegion.lean ====
/-
  What each region of the kernel leaves in its result arrays, from the arrays it finds.  Every window is its whole
  array, so a region's results are its stores' payloads at those arrays.
-/
module

public import proofs.«01_k».proof.Proof.Gen.KernelIdeal.Frame
public import proofs.«01_k».proof.Proof.KernelPay
public import Idealize.ShloMosaic.Lib.Pipeline.ValueKit

@[expose] public section

set_option maxRecDepth 16384

noncomputable section

namespace Cert.Proof.Region

open Cert.KernelIdeal Cert.KernelIdeal.Gen Idealize.ShloMosaic Idealize.ShloMosaic.TcCoe Idealize.SL.Sem

/-- An offset of no blocks and a stride of one move no index. -/
theorem unmoved (n k : Nat) : 0 * n + 1 * k = k := by omega

/-- The zero offset of a matrix. -/
theorem zero2 : (![0, 0] : Fin 2 → Nat) = fun _ => 0 := funext fun a => by fin_cases a <;> rfl

/-- The zero offset of a vector. -/
theorem zero1 : (![0] : Fin 1 → Nat) = fun _ => 0 := funext fun a => by fin_cases a; rfl

variable {F : FTy → Type} [FloatOps F]
variable (V : (c : Dev nD) → (b : Ref sig .tc) → Buf (Elt F) ((c : Thread nD τ).loc b))

/-- The upper rows of the stacked accumulator. -/
def upper (x : Vec F S20000x64 .f32) : Vec F S10000x64 .f32 := View.ld x r1_4

/-- The lower rows of the stacked accumulator. -/
def lower (x : Vec F S20000x64 .f32) : Vec F S10000x64 .f32 := View.ld x r1_5

/-- The first word of the shift row. -/
def first (x : Vec F S1x16 .f32) : Vec F S1x1 .f32 := View.ld x r1_0

/-- Call 1: window 0 reads its whole array. -/
theorem iblk0_0 (c : Dev nD) (t : Fin cfg0.N) : Gen.iblk0 V c 0 t = V c main_arg0 :=
  funext fun _ => congrArg (V c main_arg0) (funext fun _ => Fin.ext (unmoved _ _))

/-- Call 1: window 1 reads its whole array. -/
theorem iblk0_1 (c : Dev nD) (t : Fin cfg0.N) : Gen.iblk0 V c 1 t = V c main_arg2 :=
  funext fun _ => congrArg (V c main_arg2) (funext fun _ => Fin.ext (unmoved _ _))

/-- Call 1: window 2 reads its whole array. -/
theorem iblk0_2 (c : Dev nD) (t : Fin cfg0.N) : Gen.iblk0 V c 2 t = V c main_arg3 :=
  funext fun _ => congrArg (V c main_arg3) (funext fun _ => Fin.ext (unmoved _ _))

/-- Call 1: window 3 reads its whole array. -/
theorem iblk0_3 (c : Dev nD) (t : Fin cfg0.N) : Gen.iblk0 V c 3 t = V c main_arg4 :=
  funext fun _ => congrArg (V c main_arg4) (funext fun _ => Fin.ext (unmoved _ _))

/-- Call 1: what the body stores in window 4. -/
theorem pay0_4 (x0 : Vec F S10000x128 .f32) (x1 : Vec F S128x128 .f32) (x2 : Vec F S128 .f32) (x3 : Vec F S128 .f32) :
    out0_4 x0 x1 x2 x3 = k0_pay1 x0 x1 := by
  unfold out0_4
  rw [View.canon_unit_zero (S := S10000x128) zero2]
  simp only [View.ld_unit_zero (S := S10000x128) zero2, View.ld_unit_zero (S := S128) zero1, View.ld_unit_zero (S := S128x128) zero2]

/-- Call 1: the array of window 4 ends at what the body leaves there. -/
theorem arr0_4 (c : Dev nD) (X : Vec F S10000x128 .f32) (h : ∀ t, (dat0 V c).after 4 t = X) :
    (dat0 V c).arrAt 4 cfg0.N = X := by
  refine (dat0 V c).arrAt_eq_of_covers 4 X (by decide +kernel) fun t hf y => ?_
  rw [h]
  exact congrArg X (funext fun _ => Fin.ext (unmoved _ _).symm)

/-- Call 1: the array of window 4 at the end. -/
theorem val0_4 (c : Dev nD) : (dat0 V c).arrAt 4 cfg0.N = k0_pay1 (V c main_arg0) (V c main_arg2) :=
  arr0_4 V c _ fun t => by
    rw [after0_4, iblk0_0, iblk0_1, iblk0_2, iblk0_3]
    exact pay0_4 (V c main_arg0) (V c main_arg2) (V c main_arg3) (V c main_arg4)

/-- Call 1: what the body stores in window 5. -/
theorem pay0_5 (x0 : Vec F S10000x128 .f32) (x1 : Vec F S128x128 .f32) (x2 : Vec F S128 .f32) (x3 : Vec F S128 .f32) :
    out0_5 x0 x1 x2 x3 = k0_pay2 x0 x1 x2 := by
  unfold out0_5
  rw [View.canon_unit_zero (S := S10000x1) zero2]
  simp only [View.ld_unit_zero (S := S10000x128) zero2, View.ld_unit_zero (S := S128) zero1, View.ld_unit_zero (S := S128x128) zero2]

/-- Call 1: the array of window 5 ends at what the body leaves there. -/
theorem arr0_5 (c : Dev nD) (X : Vec F S10000x1 .f32) (h : ∀ t, (dat0 V c).after 5 t = X) :
    (dat0 V c).arrAt 5 cfg0.N = X := by
  refine (dat0 V c).arrAt_eq_of_covers 5 X (by decide +kernel) fun t hf y => ?_
  rw [h]
  exact congrArg X (funext fun _ => Fin.ext (unmoved _ _).symm)

/-- Call 1: the array of window 5 at the end. -/
theorem val0_5 (c : Dev nD) : (dat0 V c).arrAt 5 cfg0.N = k0_pay2 (V c main_arg0) (V c main_arg2) (V c main_arg3) :=
  arr0_5 V c _ fun t => by
    rw [after0_5, iblk0_0, iblk0_1, iblk0_2, iblk0_3]
    exact pay0_5 (V c main_arg0) (V c main_arg2) (V c main_arg3) (V c main_arg4)

/-- Call 1: what the body stores in window 6. -/
theorem pay0_6 (x0 : Vec F S10000x128 .f32) (x1 : Vec F S128x128 .f32) (x2 : Vec F S128 .f32) (x3 : Vec F S128 .f32) :
    out0_6 x0 x1 x2 x3 = k0_pay3 x0 x1 x3 := by
  unfold out0_6
  rw [View.canon_unit_zero (S := S10000x1) zero2]
  simp only [View.ld_unit_zero (S := S10000x128) zero2, View.ld_unit_zero (S := S128) zero1, View.ld_unit_zero (S := S128x128) zero2]

/-- Call 1: the array of window 6 ends at what the body leaves there. -/
theorem arr0_6 (c : Dev nD) (X : Vec F S10000x1 .f32) (h : ∀ t, (dat0 V c).after 6 t = X) :
    (dat0 V c).arrAt 6 cfg0.N = X := by
  refine (dat0 V c).arrAt_eq_of_covers 6 X (by decide +kernel) fun t hf y => ?_
  rw [h]
  exact congrArg X (funext fun _ => Fin.ext (unmoved _ _).symm)

/-- Call 1: the array of window 6 at the end. -/
theorem val0_6 (c : Dev nD) : (dat0 V c).arrAt 6 cfg0.N = k0_pay3 (V c main_arg0) (V c main_arg2) (V c main_arg4) :=
  arr0_6 V c _ fun t => by
    rw [after0_6, iblk0_0, iblk0_1, iblk0_2, iblk0_3]
    exact pay0_6 (V c main_arg0) (V c main_arg2) (V c main_arg3) (V c main_arg4)

/-- Call 1: what the body stores in window 7. -/
theorem pay0_7 (x0 : Vec F S10000x128 .f32) (x1 : Vec F S128x128 .f32) (x2 : Vec F S128 .f32) (x3 : Vec F S128 .f32) :
    out0_7 x0 x1 x2 x3 = k0_pay4 x0 x1 x2 x3 := by
  unfold out0_7
  rw [View.canon_unit_zero (S := S1x16) zero2]
  simp only [View.ld_unit_zero (S := S10000x128) zero2, View.ld_unit_zero (S := S128) zero1, View.ld_unit_zero (S := S128x128) zero2]

/-- Call 1: the array of window 7 ends at what the body leaves there. -/
theorem arr0_7 (c : Dev nD) (X : Vec F S1x16 .f32) (h : ∀ t, (dat0 V c).after 7 t = X) :
    (dat0 V c).arrAt 7 cfg0.N = X := by
  refine (dat0 V c).arrAt_eq_of_covers 7 X (by decide +kernel) fun t hf y => ?_
  rw [h]
  exact congrArg X (funext fun _ => Fin.ext (unmoved _ _).symm)

/-- Call 1: the array of window 7 at the end. -/
theorem val0_7 (c : Dev nD) : (dat0 V c).arrAt 7 cfg0.N = k0_pay4 (V c main_arg0) (V c main_arg2) (V c main_arg3) (V c main_arg4) :=
  arr0_7 V c _ fun t => by
    rw [after0_7, iblk0_0, iblk0_1, iblk0_2, iblk0_3]
    exact pay0_7 (V c main_arg0) (V c main_arg2) (V c main_arg3) (V c main_arg4)

/-- Call 2: window 0 reads its whole array. -/
theorem iblk1_0 (c : Dev nD) (t : Fin cfg1.N) : Gen.iblk1 V c 0 t = V c main_v49 :=
  funext fun _ => congrArg (V c main_v49) (funext fun _ => Fin.ext (unmoved _ _))

/-- Call 2: window 1 reads its whole array. -/
theorem iblk1_1 (c : Dev nD) (t : Fin cfg1.N) : Gen.iblk1 V c 1 t = V c main_v52 :=
  funext fun _ => congrArg (V c main_v52) (funext fun _ => Fin.ext (unmoved _ _))

/-- Call 2: window 2 reads its whole array. -/
theorem iblk1_2 (c : Dev nD) (t : Fin cfg1.N) : Gen.iblk1 V c 2 t = V c main_v4_0 :=
  funext fun _ => congrArg (V c main_v4_0) (funext fun _ => Fin.ext (unmoved _ _))

/-- Call 2: window 3 reads its whole array. -/
theorem iblk1_3 (c : Dev nD) (t : Fin cfg1.N) : Gen.iblk1 V c 3 t = V c main_v4_1 :=
  funext fun _ => congrArg (V c main_v4_1) (funext fun _ => Fin.ext (unmoved _ _))

/-- Call 2: window 4 reads its whole array. -/
theorem iblk1_4 (c : Dev nD) (t : Fin cfg1.N) : Gen.iblk1 V c 4 t = V c main_v4_2 :=
  funext fun _ => congrArg (V c main_v4_2) (funext fun _ => Fin.ext (unmoved _ _))

/-- Call 2: window 5 reads its whole array. -/
theorem iblk1_5 (c : Dev nD) (t : Fin cfg1.N) : Gen.iblk1 V c 5 t = V c main_v4_3 :=
  funext fun _ => congrArg (V c main_v4_3) (funext fun _ => Fin.ext (unmoved _ _))

/-- Call 2: window 6 reads its whole array. -/
theorem iblk1_6 (c : Dev nD) (t : Fin cfg1.N) : Gen.iblk1 V c 6 t = V c main_arg5 :=
  funext fun _ => congrArg (V c main_arg5) (funext fun _ => Fin.ext (unmoved _ _))

/-- Call 2: window 7 reads its whole array. -/
theorem iblk1_7 (c : Dev nD) (t : Fin cfg1.N) : Gen.iblk1 V c 7 t = V c main_arg6 :=
  funext fun _ => congrArg (V c main_arg6) (funext fun _ => Fin.ext (unmoved _ _))

/-- Call 2: window 8 reads its whole array. -/
theorem iblk1_8 (c : Dev nD) (t : Fin cfg1.N) : Gen.iblk1 V c 8 t = V c main_arg7 :=
  funext fun _ => congrArg (V c main_arg7) (funext fun _ => Fin.ext (unmoved _ _))

/-- Call 2: window 9 reads its whole array. -/
theorem iblk1_9 (c : Dev nD) (t : Fin cfg1.N) : Gen.iblk1 V c 9 t = V c main_arg8 :=
  funext fun _ => congrArg (V c main_arg8) (funext fun _ => Fin.ext (unmoved _ _))

/-- Call 2: window 10 reads its whole array. -/
theorem iblk1_10 (c : Dev nD) (t : Fin cfg1.N) : Gen.iblk1 V c 10 t = V c main_arg9 :=
  funext fun _ => congrArg (V c main_arg9) (funext fun _ => Fin.ext (unmoved _ _))

/-- Call 2: window 11 reads its whole array. -/
theorem iblk1_11 (c : Dev nD) (t : Fin cfg1.N) : Gen.iblk1 V c 11 t = V c main_arg10 :=
  funext fun _ => congrArg (V c main_arg10) (funext fun _ => Fin.ext (unmoved _ _))

/-- Call 2: what the body stores in window 12. -/
theorem pay1_12 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out1_12 x0 x1 x2 x3 x4 x5 x6 x7 x8 x9 x10 x11 = k1_pay4 (k1_pay2 (first x5) x3 x4 x1 x2 (upper x0) (lower x0) x6) (k1_pay3 (first x5) x3 x4 x1 x2 (upper x0) (lower x0) x6) x7 x8 x9 := by
  unfold out1_12 k1_pay7 k1_pay8
  rw [View.canon_unit_zero (S := S10000x128) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 2: the array of window 12 ends at what the body leaves there. -/
theorem arr1_12 (c : Dev nD) (X : Vec F S10000x128 .f32) (h : ∀ t, (dat1 V c).after 12 t = X) :
    (dat1 V c).arrAt 12 cfg1.N = X := by
  refine (dat1 V c).arrAt_eq_of_covers 12 X (by decide +kernel) fun t hf y => ?_
  rw [h]
  exact congrArg X (funext fun _ => Fin.ext (unmoved _ _).symm)

/-- Call 2: the array of window 12 at the end. -/
theorem val1_12 (c : Dev nD) : (dat1 V c).arrAt 12 cfg1.N = k1_pay4 (k1_pay2 (first (V c main_v4_3)) (V c main_v4_1) (V c main_v4_2) (V c main_v52) (V c main_v4_0) (upper (V c main_v49)) (lower (V c main_v49)) (V c main_arg5)) (k1_pay3 (first (V c main_v4_3)) (V c main_v4_1) (V c main_v4_2) (V c main_v52) (V c main_v4_0) (upper (V c main_v49)) (lower (V c main_v49)) (V c main_arg5)) (V c main_arg6) (V c main_arg7) (V c main_arg8) :=
  arr1_12 V c _ fun t => by
    rw [after1_12, iblk1_0, iblk1_1, iblk1_2, iblk1_3, iblk1_4, iblk1_5, iblk1_6, iblk1_7, iblk1_8, iblk1_9, iblk1_10, iblk1_11]
    exact pay1_12 (V c main_v49) (V c main_v52) (V c main_v4_0) (V c main_v4_1) (V c main_v4_2) (V c main_v4_3) (V c main_arg5) (V c main_arg6) (V c main_arg7) (V c main_arg8) (V c main_arg9) (V c main_arg10)

/-- Call 2: what the body stores in window 13. -/
theorem pay1_13 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out1_13 x0 x1 x2 x3 x4 x5 x6 x7 x8 x9 x10 x11 = k1_pay5 (k1_pay2 (first x5) x3 x4 x1 x2 (upper x0) (lower x0) x6) (k1_pay3 (first x5) x3 x4 x1 x2 (upper x0) (lower x0) x6) x7 x8 x9 x10 := by
  unfold out1_13 k1_pay7 k1_pay8
  rw [View.canon_unit_zero (S := S10000x1) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 2: the array of window 13 ends at what the body leaves there. -/
theorem arr1_13 (c : Dev nD) (X : Vec F S10000x1 .f32) (h : ∀ t, (dat1 V c).after 13 t = X) :
    (dat1 V c).arrAt 13 cfg1.N = X := by
  refine (dat1 V c).arrAt_eq_of_covers 13 X (by decide +kernel) fun t hf y => ?_
  rw [h]
  exact congrArg X (funext fun _ => Fin.ext (unmoved _ _).symm)

/-- Call 2: the array of window 13 at the end. -/
theorem val1_13 (c : Dev nD) : (dat1 V c).arrAt 13 cfg1.N = k1_pay5 (k1_pay2 (first (V c main_v4_3)) (V c main_v4_1) (V c main_v4_2) (V c main_v52) (V c main_v4_0) (upper (V c main_v49)) (lower (V c main_v49)) (V c main_arg5)) (k1_pay3 (first (V c main_v4_3)) (V c main_v4_1) (V c main_v4_2) (V c main_v52) (V c main_v4_0) (upper (V c main_v49)) (lower (V c main_v49)) (V c main_arg5)) (V c main_arg6) (V c main_arg7) (V c main_arg8) (V c main_arg9) :=
  arr1_13 V c _ fun t => by
    rw [after1_13, iblk1_0, iblk1_1, iblk1_2, iblk1_3, iblk1_4, iblk1_5, iblk1_6, iblk1_7, iblk1_8, iblk1_9, iblk1_10, iblk1_11]
    exact pay1_13 (V c main_v49) (V c main_v52) (V c main_v4_0) (V c main_v4_1) (V c main_v4_2) (V c main_v4_3) (V c main_arg5) (V c main_arg6) (V c main_arg7) (V c main_arg8) (V c main_arg9) (V c main_arg10)

/-- Call 2: what the body stores in window 14. -/
theorem pay1_14 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out1_14 x0 x1 x2 x3 x4 x5 x6 x7 x8 x9 x10 x11 = k1_pay6 (k1_pay2 (first x5) x3 x4 x1 x2 (upper x0) (lower x0) x6) (k1_pay3 (first x5) x3 x4 x1 x2 (upper x0) (lower x0) x6) x7 x8 x9 x11 := by
  unfold out1_14 k1_pay7 k1_pay8
  rw [View.canon_unit_zero (S := S10000x1) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 2: the array of window 14 ends at what the body leaves there. -/
theorem arr1_14 (c : Dev nD) (X : Vec F S10000x1 .f32) (h : ∀ t, (dat1 V c).after 14 t = X) :
    (dat1 V c).arrAt 14 cfg1.N = X := by
  refine (dat1 V c).arrAt_eq_of_covers 14 X (by decide +kernel) fun t hf y => ?_
  rw [h]
  exact congrArg X (funext fun _ => Fin.ext (unmoved _ _).symm)

/-- Call 2: the array of window 14 at the end. -/
theorem val1_14 (c : Dev nD) : (dat1 V c).arrAt 14 cfg1.N = k1_pay6 (k1_pay2 (first (V c main_v4_3)) (V c main_v4_1) (V c main_v4_2) (V c main_v52) (V c main_v4_0) (upper (V c main_v49)) (lower (V c main_v49)) (V c main_arg5)) (k1_pay3 (first (V c main_v4_3)) (V c main_v4_1) (V c main_v4_2) (V c main_v52) (V c main_v4_0) (upper (V c main_v49)) (lower (V c main_v49)) (V c main_arg5)) (V c main_arg6) (V c main_arg7) (V c main_arg8) (V c main_arg10) :=
  arr1_14 V c _ fun t => by
    rw [after1_14, iblk1_0, iblk1_1, iblk1_2, iblk1_3, iblk1_4, iblk1_5, iblk1_6, iblk1_7, iblk1_8, iblk1_9, iblk1_10, iblk1_11]
    exact pay1_14 (V c main_v49) (V c main_v52) (V c main_v4_0) (V c main_v4_1) (V c main_v4_2) (V c main_v4_3) (V c main_arg5) (V c main_arg6) (V c main_arg7) (V c main_arg8) (V c main_arg9) (V c main_arg10)

/-- Call 2: what the body stores in window 15. -/
theorem pay1_15 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out1_15 x0 x1 x2 x3 x4 x5 x6 x7 x8 x9 x10 x11 = k1_pay1 (k1_pay5 (k1_pay2 (first x5) x3 x4 x1 x2 (upper x0) (lower x0) x6) (k1_pay3 (first x5) x3 x4 x1 x2 (upper x0) (lower x0) x6) x7 x8 x9 x10) (k1_pay6 (k1_pay2 (first x5) x3 x4 x1 x2 (upper x0) (lower x0) x6) (k1_pay3 (first x5) x3 x4 x1 x2 (upper x0) (lower x0) x6) x7 x8 x9 x11) := by
  unfold out1_15 k1_pay7 k1_pay8
  rw [View.canon_unit_zero (S := S1x16) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 2: the array of window 15 ends at what the body leaves there. -/
theorem arr1_15 (c : Dev nD) (X : Vec F S1x16 .f32) (h : ∀ t, (dat1 V c).after 15 t = X) :
    (dat1 V c).arrAt 15 cfg1.N = X := by
  refine (dat1 V c).arrAt_eq_of_covers 15 X (by decide +kernel) fun t hf y => ?_
  rw [h]
  exact congrArg X (funext fun _ => Fin.ext (unmoved _ _).symm)

/-- Call 2: the array of window 15 at the end. -/
theorem val1_15 (c : Dev nD) : (dat1 V c).arrAt 15 cfg1.N = k1_pay1 (k1_pay5 (k1_pay2 (first (V c main_v4_3)) (V c main_v4_1) (V c main_v4_2) (V c main_v52) (V c main_v4_0) (upper (V c main_v49)) (lower (V c main_v49)) (V c main_arg5)) (k1_pay3 (first (V c main_v4_3)) (V c main_v4_1) (V c main_v4_2) (V c main_v52) (V c main_v4_0) (upper (V c main_v49)) (lower (V c main_v49)) (V c main_arg5)) (V c main_arg6) (V c main_arg7) (V c main_arg8) (V c main_arg9)) (k1_pay6 (k1_pay2 (first (V c main_v4_3)) (V c main_v4_1) (V c main_v4_2) (V c main_v52) (V c main_v4_0) (upper (V c main_v49)) (lower (V c main_v49)) (V c main_arg5)) (k1_pay3 (first (V c main_v4_3)) (V c main_v4_1) (V c main_v4_2) (V c main_v52) (V c main_v4_0) (upper (V c main_v49)) (lower (V c main_v49)) (V c main_arg5)) (V c main_arg6) (V c main_arg7) (V c main_arg8) (V c main_arg10)) :=
  arr1_15 V c _ fun t => by
    rw [after1_15, iblk1_0, iblk1_1, iblk1_2, iblk1_3, iblk1_4, iblk1_5, iblk1_6, iblk1_7, iblk1_8, iblk1_9, iblk1_10, iblk1_11]
    exact pay1_15 (V c main_v49) (V c main_v52) (V c main_v4_0) (V c main_v4_1) (V c main_v4_2) (V c main_v4_3) (V c main_arg5) (V c main_arg6) (V c main_arg7) (V c main_arg8) (V c main_arg9) (V c main_arg10)

/-- Call 3: window 0 reads its whole array. -/
theorem iblk2_0 (c : Dev nD) (t : Fin cfg2.N) : Gen.iblk2 V c 0 t = V c main_v98 :=
  funext fun _ => congrArg (V c main_v98) (funext fun _ => Fin.ext (unmoved _ _))

/-- Call 3: window 1 reads its whole array. -/
theorem iblk2_1 (c : Dev nD) (t : Fin cfg2.N) : Gen.iblk2 V c 1 t = V c main_v101 :=
  funext fun _ => congrArg (V c main_v101) (funext fun _ => Fin.ext (unmoved _ _))

/-- Call 3: window 2 reads its whole array. -/
theorem iblk2_2 (c : Dev nD) (t : Fin cfg2.N) : Gen.iblk2 V c 2 t = V c main_v53_0 :=
  funext fun _ => congrArg (V c main_v53_0) (funext fun _ => Fin.ext (unmoved _ _))

/-- Call 3: window 3 reads its whole array. -/
theorem iblk2_3 (c : Dev nD) (t : Fin cfg2.N) : Gen.iblk2 V c 3 t = V c main_v53_1 :=
  funext fun _ => congrArg (V c main_v53_1) (funext fun _ => Fin.ext (unmoved _ _))

/-- Call 3: window 4 reads its whole array. -/
theorem iblk2_4 (c : Dev nD) (t : Fin cfg2.N) : Gen.iblk2 V c 4 t = V c main_v53_2 :=
  funext fun _ => congrArg (V c main_v53_2) (funext fun _ => Fin.ext (unmoved _ _))

/-- Call 3: window 5 reads its whole array. -/
theorem iblk2_5 (c : Dev nD) (t : Fin cfg2.N) : Gen.iblk2 V c 5 t = V c main_v53_3 :=
  funext fun _ => congrArg (V c main_v53_3) (funext fun _ => Fin.ext (unmoved _ _))

/-- Call 3: window 6 reads its whole array. -/
theorem iblk2_6 (c : Dev nD) (t : Fin cfg2.N) : Gen.iblk2 V c 6 t = V c main_arg11 :=
  funext fun _ => congrArg (V c main_arg11) (funext fun _ => Fin.ext (unmoved _ _))

/-- Call 3: window 7 reads its whole array. -/
theorem iblk2_7 (c : Dev nD) (t : Fin cfg2.N) : Gen.iblk2 V c 7 t = V c main_arg12 :=
  funext fun _ => congrArg (V c main_arg12) (funext fun _ => Fin.ext (unmoved _ _))

/-- Call 3: window 8 reads its whole array. -/
theorem iblk2_8 (c : Dev nD) (t : Fin cfg2.N) : Gen.iblk2 V c 8 t = V c main_arg13 :=
  funext fun _ => congrArg (V c main_arg13) (funext fun _ => Fin.ext (unmoved _ _))

/-- Call 3: window 9 reads its whole array. -/
theorem iblk2_9 (c : Dev nD) (t : Fin cfg2.N) : Gen.iblk2 V c 9 t = V c main_arg14 :=
  funext fun _ => congrArg (V c main_arg14) (funext fun _ => Fin.ext (unmoved _ _))

/-- Call 3: window 10 reads its whole array. -/
theorem iblk2_10 (c : Dev nD) (t : Fin cfg2.N) : Gen.iblk2 V c 10 t = V c main_arg15 :=
  funext fun _ => congrArg (V c main_arg15) (funext fun _ => Fin.ext (unmoved _ _))

/-- Call 3: window 11 reads its whole array. -/
theorem iblk2_11 (c : Dev nD) (t : Fin cfg2.N) : Gen.iblk2 V c 11 t = V c main_arg16 :=
  funext fun _ => congrArg (V c main_arg16) (funext fun _ => Fin.ext (unmoved _ _))

/-- Call 3: what the body stores in window 12. -/
theorem pay2_12 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out2_12 x0 x1 x2 x3 x4 x5 x6 x7 x8 x9 x10 x11 = k2_pay4 (k2_pay2 (first x5) x3 x4 x1 x2 (upper x0) (lower x0) x6) (k2_pay3 (first x5) x3 x4 x1 x2 (upper x0) (lower x0) x6) x7 x8 x9 := by
  unfold out2_12 k2_pay7 k2_pay8
  rw [View.canon_unit_zero (S := S10000x128) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 3: the array of window 12 ends at what the body leaves there. -/
theorem arr2_12 (c : Dev nD) (X : Vec F S10000x128 .f32) (h : ∀ t, (dat2 V c).after 12 t = X) :
    (dat2 V c).arrAt 12 cfg2.N = X := by
  refine (dat2 V c).arrAt_eq_of_covers 12 X (by decide +kernel) fun t hf y => ?_
  rw [h]
  exact congrArg X (funext fun _ => Fin.ext (unmoved _ _).symm)

/-- Call 3: the array of window 12 at the end. -/
theorem val2_12 (c : Dev nD) : (dat2 V c).arrAt 12 cfg2.N = k2_pay4 (k2_pay2 (first (V c main_v53_3)) (V c main_v53_1) (V c main_v53_2) (V c main_v101) (V c main_v53_0) (upper (V c main_v98)) (lower (V c main_v98)) (V c main_arg11)) (k2_pay3 (first (V c main_v53_3)) (V c main_v53_1) (V c main_v53_2) (V c main_v101) (V c main_v53_0) (upper (V c main_v98)) (lower (V c main_v98)) (V c main_arg11)) (V c main_arg12) (V c main_arg13) (V c main_arg14) :=
  arr2_12 V c _ fun t => by
    rw [after2_12, iblk2_0, iblk2_1, iblk2_2, iblk2_3, iblk2_4, iblk2_5, iblk2_6, iblk2_7, iblk2_8, iblk2_9, iblk2_10, iblk2_11]
    exact pay2_12 (V c main_v98) (V c main_v101) (V c main_v53_0) (V c main_v53_1) (V c main_v53_2) (V c main_v53_3) (V c main_arg11) (V c main_arg12) (V c main_arg13) (V c main_arg14) (V c main_arg15) (V c main_arg16)

/-- Call 3: what the body stores in window 13. -/
theorem pay2_13 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out2_13 x0 x1 x2 x3 x4 x5 x6 x7 x8 x9 x10 x11 = k2_pay5 (k2_pay2 (first x5) x3 x4 x1 x2 (upper x0) (lower x0) x6) (k2_pay3 (first x5) x3 x4 x1 x2 (upper x0) (lower x0) x6) x7 x8 x9 x10 := by
  unfold out2_13 k2_pay7 k2_pay8
  rw [View.canon_unit_zero (S := S10000x1) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 3: the array of window 13 ends at what the body leaves there. -/
theorem arr2_13 (c : Dev nD) (X : Vec F S10000x1 .f32) (h : ∀ t, (dat2 V c).after 13 t = X) :
    (dat2 V c).arrAt 13 cfg2.N = X := by
  refine (dat2 V c).arrAt_eq_of_covers 13 X (by decide +kernel) fun t hf y => ?_
  rw [h]
  exact congrArg X (funext fun _ => Fin.ext (unmoved _ _).symm)

/-- Call 3: the array of window 13 at the end. -/
theorem val2_13 (c : Dev nD) : (dat2 V c).arrAt 13 cfg2.N = k2_pay5 (k2_pay2 (first (V c main_v53_3)) (V c main_v53_1) (V c main_v53_2) (V c main_v101) (V c main_v53_0) (upper (V c main_v98)) (lower (V c main_v98)) (V c main_arg11)) (k2_pay3 (first (V c main_v53_3)) (V c main_v53_1) (V c main_v53_2) (V c main_v101) (V c main_v53_0) (upper (V c main_v98)) (lower (V c main_v98)) (V c main_arg11)) (V c main_arg12) (V c main_arg13) (V c main_arg14) (V c main_arg15) :=
  arr2_13 V c _ fun t => by
    rw [after2_13, iblk2_0, iblk2_1, iblk2_2, iblk2_3, iblk2_4, iblk2_5, iblk2_6, iblk2_7, iblk2_8, iblk2_9, iblk2_10, iblk2_11]
    exact pay2_13 (V c main_v98) (V c main_v101) (V c main_v53_0) (V c main_v53_1) (V c main_v53_2) (V c main_v53_3) (V c main_arg11) (V c main_arg12) (V c main_arg13) (V c main_arg14) (V c main_arg15) (V c main_arg16)

/-- Call 3: what the body stores in window 14. -/
theorem pay2_14 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out2_14 x0 x1 x2 x3 x4 x5 x6 x7 x8 x9 x10 x11 = k2_pay6 (k2_pay2 (first x5) x3 x4 x1 x2 (upper x0) (lower x0) x6) (k2_pay3 (first x5) x3 x4 x1 x2 (upper x0) (lower x0) x6) x7 x8 x9 x11 := by
  unfold out2_14 k2_pay7 k2_pay8
  rw [View.canon_unit_zero (S := S10000x1) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 3: the array of window 14 ends at what the body leaves there. -/
theorem arr2_14 (c : Dev nD) (X : Vec F S10000x1 .f32) (h : ∀ t, (dat2 V c).after 14 t = X) :
    (dat2 V c).arrAt 14 cfg2.N = X := by
  refine (dat2 V c).arrAt_eq_of_covers 14 X (by decide +kernel) fun t hf y => ?_
  rw [h]
  exact congrArg X (funext fun _ => Fin.ext (unmoved _ _).symm)

/-- Call 3: the array of window 14 at the end. -/
theorem val2_14 (c : Dev nD) : (dat2 V c).arrAt 14 cfg2.N = k2_pay6 (k2_pay2 (first (V c main_v53_3)) (V c main_v53_1) (V c main_v53_2) (V c main_v101) (V c main_v53_0) (upper (V c main_v98)) (lower (V c main_v98)) (V c main_arg11)) (k2_pay3 (first (V c main_v53_3)) (V c main_v53_1) (V c main_v53_2) (V c main_v101) (V c main_v53_0) (upper (V c main_v98)) (lower (V c main_v98)) (V c main_arg11)) (V c main_arg12) (V c main_arg13) (V c main_arg14) (V c main_arg16) :=
  arr2_14 V c _ fun t => by
    rw [after2_14, iblk2_0, iblk2_1, iblk2_2, iblk2_3, iblk2_4, iblk2_5, iblk2_6, iblk2_7, iblk2_8, iblk2_9, iblk2_10, iblk2_11]
    exact pay2_14 (V c main_v98) (V c main_v101) (V c main_v53_0) (V c main_v53_1) (V c main_v53_2) (V c main_v53_3) (V c main_arg11) (V c main_arg12) (V c main_arg13) (V c main_arg14) (V c main_arg15) (V c main_arg16)

/-- Call 3: what the body stores in window 15. -/
theorem pay2_15 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out2_15 x0 x1 x2 x3 x4 x5 x6 x7 x8 x9 x10 x11 = k2_pay1 (k2_pay5 (k2_pay2 (first x5) x3 x4 x1 x2 (upper x0) (lower x0) x6) (k2_pay3 (first x5) x3 x4 x1 x2 (upper x0) (lower x0) x6) x7 x8 x9 x10) (k2_pay6 (k2_pay2 (first x5) x3 x4 x1 x2 (upper x0) (lower x0) x6) (k2_pay3 (first x5) x3 x4 x1 x2 (upper x0) (lower x0) x6) x7 x8 x9 x11) := by
  unfold out2_15 k2_pay7 k2_pay8
  rw [View.canon_unit_zero (S := S1x16) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 3: the array of window 15 ends at what the body leaves there. -/
theorem arr2_15 (c : Dev nD) (X : Vec F S1x16 .f32) (h : ∀ t, (dat2 V c).after 15 t = X) :
    (dat2 V c).arrAt 15 cfg2.N = X := by
  refine (dat2 V c).arrAt_eq_of_covers 15 X (by decide +kernel) fun t hf y => ?_
  rw [h]
  exact congrArg X (funext fun _ => Fin.ext (unmoved _ _).symm)

/-- Call 3: the array of window 15 at the end. -/
theorem val2_15 (c : Dev nD) : (dat2 V c).arrAt 15 cfg2.N = k2_pay1 (k2_pay5 (k2_pay2 (first (V c main_v53_3)) (V c main_v53_1) (V c main_v53_2) (V c main_v101) (V c main_v53_0) (upper (V c main_v98)) (lower (V c main_v98)) (V c main_arg11)) (k2_pay3 (first (V c main_v53_3)) (V c main_v53_1) (V c main_v53_2) (V c main_v101) (V c main_v53_0) (upper (V c main_v98)) (lower (V c main_v98)) (V c main_arg11)) (V c main_arg12) (V c main_arg13) (V c main_arg14) (V c main_arg15)) (k2_pay6 (k2_pay2 (first (V c main_v53_3)) (V c main_v53_1) (V c main_v53_2) (V c main_v101) (V c main_v53_0) (upper (V c main_v98)) (lower (V c main_v98)) (V c main_arg11)) (k2_pay3 (first (V c main_v53_3)) (V c main_v53_1) (V c main_v53_2) (V c main_v101) (V c main_v53_0) (upper (V c main_v98)) (lower (V c main_v98)) (V c main_arg11)) (V c main_arg12) (V c main_arg13) (V c main_arg14) (V c main_arg16)) :=
  arr2_15 V c _ fun t => by
    rw [after2_15, iblk2_0, iblk2_1, iblk2_2, iblk2_3, iblk2_4, iblk2_5, iblk2_6, iblk2_7, iblk2_8, iblk2_9, iblk2_10, iblk2_11]
    exact pay2_15 (V c main_v98) (V c main_v101) (V c main_v53_0) (V c main_v53_1) (V c main_v53_2) (V c main_v53_3) (V c main_arg11) (V c main_arg12) (V c main_arg13) (V c main_arg14) (V c main_arg15) (V c main_arg16)

/-- Call 4: window 0 reads its whole array. -/
theorem iblk3_0 (c : Dev nD) (t : Fin cfg3.N) : Gen.iblk3 V c 0 t = V c main_v147 :=
  funext fun _ => congrArg (V c main_v147) (funext fun _ => Fin.ext (unmoved _ _))

/-- Call 4: window 1 reads its whole array. -/
theorem iblk3_1 (c : Dev nD) (t : Fin cfg3.N) : Gen.iblk3 V c 1 t = V c main_v150 :=
  funext fun _ => congrArg (V c main_v150) (funext fun _ => Fin.ext (unmoved _ _))

/-- Call 4: window 2 reads its whole array. -/
theorem iblk3_2 (c : Dev nD) (t : Fin cfg3.N) : Gen.iblk3 V c 2 t = V c main_v102_0 :=
  funext fun _ => congrArg (V c main_v102_0) (funext fun _ => Fin.ext (unmoved _ _))

/-- Call 4: window 3 reads its whole array. -/
theorem iblk3_3 (c : Dev nD) (t : Fin cfg3.N) : Gen.iblk3 V c 3 t = V c main_v102_1 :=
  funext fun _ => congrArg (V c main_v102_1) (funext fun _ => Fin.ext (unmoved _ _))

/-- Call 4: window 4 reads its whole array. -/
theorem iblk3_4 (c : Dev nD) (t : Fin cfg3.N) : Gen.iblk3 V c 4 t = V c main_v102_2 :=
  funext fun _ => congrArg (V c main_v102_2) (funext fun _ => Fin.ext (unmoved _ _))

/-- Call 4: window 5 reads its whole array. -/
theorem iblk3_5 (c : Dev nD) (t : Fin cfg3.N) : Gen.iblk3 V c 5 t = V c main_v102_3 :=
  funext fun _ => congrArg (V c main_v102_3) (funext fun _ => Fin.ext (unmoved _ _))

/-- Call 4: window 6 reads its whole array. -/
theorem iblk3_6 (c : Dev nD) (t : Fin cfg3.N) : Gen.iblk3 V c 6 t = V c main_arg17 :=
  funext fun _ => congrArg (V c main_arg17) (funext fun _ => Fin.ext (unmoved _ _))

/-- Call 4: window 7 reads its whole array. -/
theorem iblk3_7 (c : Dev nD) (t : Fin cfg3.N) : Gen.iblk3 V c 7 t = V c main_arg18 :=
  funext fun _ => congrArg (V c main_arg18) (funext fun _ => Fin.ext (unmoved _ _))

/-- Call 4: window 8 reads its whole array. -/
theorem iblk3_8 (c : Dev nD) (t : Fin cfg3.N) : Gen.iblk3 V c 8 t = V c main_arg19 :=
  funext fun _ => congrArg (V c main_arg19) (funext fun _ => Fin.ext (unmoved _ _))

/-- Call 4: window 9 reads its whole array. -/
theorem iblk3_9 (c : Dev nD) (t : Fin cfg3.N) : Gen.iblk3 V c 9 t = V c main_arg20 :=
  funext fun _ => congrArg (V c main_arg20) (funext fun _ => Fin.ext (unmoved _ _))

/-- Call 4: window 10 reads its whole array. -/
theorem iblk3_10 (c : Dev nD) (t : Fin cfg3.N) : Gen.iblk3 V c 10 t = V c main_arg21 :=
  funext fun _ => congrArg (V c main_arg21) (funext fun _ => Fin.ext (unmoved _ _))

/-- Call 4: window 11 reads its whole array. -/
theorem iblk3_11 (c : Dev nD) (t : Fin cfg3.N) : Gen.iblk3 V c 11 t = V c main_arg22 :=
  funext fun _ => congrArg (V c main_arg22) (funext fun _ => Fin.ext (unmoved _ _))

/-- Call 4: what the body stores in window 12. -/
theorem pay3_12 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out3_12 x0 x1 x2 x3 x4 x5 x6 x7 x8 x9 x10 x11 = k3_pay4 (k3_pay2 (first x5) x3 x4 x1 x2 (upper x0) (lower x0) x6) (k3_pay3 (first x5) x3 x4 x1 x2 (upper x0) (lower x0) x6) x7 x8 x9 := by
  unfold out3_12 k3_pay7 k3_pay8
  rw [View.canon_unit_zero (S := S10000x128) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 4: the array of window 12 ends at what the body leaves there. -/
theorem arr3_12 (c : Dev nD) (X : Vec F S10000x128 .f32) (h : ∀ t, (dat3 V c).after 12 t = X) :
    (dat3 V c).arrAt 12 cfg3.N = X := by
  refine (dat3 V c).arrAt_eq_of_covers 12 X (by decide +kernel) fun t hf y => ?_
  rw [h]
  exact congrArg X (funext fun _ => Fin.ext (unmoved _ _).symm)

/-- Call 4: the array of window 12 at the end. -/
theorem val3_12 (c : Dev nD) : (dat3 V c).arrAt 12 cfg3.N = k3_pay4 (k3_pay2 (first (V c main_v102_3)) (V c main_v102_1) (V c main_v102_2) (V c main_v150) (V c main_v102_0) (upper (V c main_v147)) (lower (V c main_v147)) (V c main_arg17)) (k3_pay3 (first (V c main_v102_3)) (V c main_v102_1) (V c main_v102_2) (V c main_v150) (V c main_v102_0) (upper (V c main_v147)) (lower (V c main_v147)) (V c main_arg17)) (V c main_arg18) (V c main_arg19) (V c main_arg20) :=
  arr3_12 V c _ fun t => by
    rw [after3_12, iblk3_0, iblk3_1, iblk3_2, iblk3_3, iblk3_4, iblk3_5, iblk3_6, iblk3_7, iblk3_8, iblk3_9, iblk3_10, iblk3_11]
    exact pay3_12 (V c main_v147) (V c main_v150) (V c main_v102_0) (V c main_v102_1) (V c main_v102_2) (V c main_v102_3) (V c main_arg17) (V c main_arg18) (V c main_arg19) (V c main_arg20) (V c main_arg21) (V c main_arg22)

/-- Call 4: what the body stores in window 13. -/
theorem pay3_13 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out3_13 x0 x1 x2 x3 x4 x5 x6 x7 x8 x9 x10 x11 = k3_pay5 (k3_pay2 (first x5) x3 x4 x1 x2 (upper x0) (lower x0) x6) (k3_pay3 (first x5) x3 x4 x1 x2 (upper x0) (lower x0) x6) x7 x8 x9 x10 := by
  unfold out3_13 k3_pay7 k3_pay8
  rw [View.canon_unit_zero (S := S10000x1) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 4: the array of window 13 ends at what the body leaves there. -/
theorem arr3_13 (c : Dev nD) (X : Vec F S10000x1 .f32) (h : ∀ t, (dat3 V c).after 13 t = X) :
    (dat3 V c).arrAt 13 cfg3.N = X := by
  refine (dat3 V c).arrAt_eq_of_covers 13 X (by decide +kernel) fun t hf y => ?_
  rw [h]
  exact congrArg X (funext fun _ => Fin.ext (unmoved _ _).symm)

/-- Call 4: the array of window 13 at the end. -/
theorem val3_13 (c : Dev nD) : (dat3 V c).arrAt 13 cfg3.N = k3_pay5 (k3_pay2 (first (V c main_v102_3)) (V c main_v102_1) (V c main_v102_2) (V c main_v150) (V c main_v102_0) (upper (V c main_v147)) (lower (V c main_v147)) (V c main_arg17)) (k3_pay3 (first (V c main_v102_3)) (V c main_v102_1) (V c main_v102_2) (V c main_v150) (V c main_v102_0) (upper (V c main_v147)) (lower (V c main_v147)) (V c main_arg17)) (V c main_arg18) (V c main_arg19) (V c main_arg20) (V c main_arg21) :=
  arr3_13 V c _ fun t => by
    rw [after3_13, iblk3_0, iblk3_1, iblk3_2, iblk3_3, iblk3_4, iblk3_5, iblk3_6, iblk3_7, iblk3_8, iblk3_9, iblk3_10, iblk3_11]
    exact pay3_13 (V c main_v147) (V c main_v150) (V c main_v102_0) (V c main_v102_1) (V c main_v102_2) (V c main_v102_3) (V c main_arg17) (V c main_arg18) (V c main_arg19) (V c main_arg20) (V c main_arg21) (V c main_arg22)

/-- Call 4: what the body stores in window 14. -/
theorem pay3_14 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out3_14 x0 x1 x2 x3 x4 x5 x6 x7 x8 x9 x10 x11 = k3_pay6 (k3_pay2 (first x5) x3 x4 x1 x2 (upper x0) (lower x0) x6) (k3_pay3 (first x5) x3 x4 x1 x2 (upper x0) (lower x0) x6) x7 x8 x9 x11 := by
  unfold out3_14 k3_pay7 k3_pay8
  rw [View.canon_unit_zero (S := S10000x1) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 4: the array of window 14 ends at what the body leaves there. -/
theorem arr3_14 (c : Dev nD) (X : Vec F S10000x1 .f32) (h : ∀ t, (dat3 V c).after 14 t = X) :
    (dat3 V c).arrAt 14 cfg3.N = X := by
  refine (dat3 V c).arrAt_eq_of_covers 14 X (by decide +kernel) fun t hf y => ?_
  rw [h]
  exact congrArg X (funext fun _ => Fin.ext (unmoved _ _).symm)

/-- Call 4: the array of window 14 at the end. -/
theorem val3_14 (c : Dev nD) : (dat3 V c).arrAt 14 cfg3.N = k3_pay6 (k3_pay2 (first (V c main_v102_3)) (V c main_v102_1) (V c main_v102_2) (V c main_v150) (V c main_v102_0) (upper (V c main_v147)) (lower (V c main_v147)) (V c main_arg17)) (k3_pay3 (first (V c main_v102_3)) (V c main_v102_1) (V c main_v102_2) (V c main_v150) (V c main_v102_0) (upper (V c main_v147)) (lower (V c main_v147)) (V c main_arg17)) (V c main_arg18) (V c main_arg19) (V c main_arg20) (V c main_arg22) :=
  arr3_14 V c _ fun t => by
    rw [after3_14, iblk3_0, iblk3_1, iblk3_2, iblk3_3, iblk3_4, iblk3_5, iblk3_6, iblk3_7, iblk3_8, iblk3_9, iblk3_10, iblk3_11]
    exact pay3_14 (V c main_v147) (V c main_v150) (V c main_v102_0) (V c main_v102_1) (V c main_v102_2) (V c main_v102_3) (V c main_arg17) (V c main_arg18) (V c main_arg19) (V c main_arg20) (V c main_arg21) (V c main_arg22)

/-- Call 4: what the body stores in window 15. -/
theorem pay3_15 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128 .f32) :
    out3_15 x0 x1 x2 x3 x4 x5 x6 x7 x8 x9 x10 x11 = k3_pay1 (k3_pay5 (k3_pay2 (first x5) x3 x4 x1 x2 (upper x0) (lower x0) x6) (k3_pay3 (first x5) x3 x4 x1 x2 (upper x0) (lower x0) x6) x7 x8 x9 x10) (k3_pay6 (k3_pay2 (first x5) x3 x4 x1 x2 (upper x0) (lower x0) x6) (k3_pay3 (first x5) x3 x4 x1 x2 (upper x0) (lower x0) x6) x7 x8 x9 x11) := by
  unfold out3_15 k3_pay7 k3_pay8
  rw [View.canon_unit_zero (S := S1x16) zero2]
  simp only [View.ld_unit_zero (S := S10000x1) zero2, View.ld_unit_zero (S := S10000x128) zero2, View.ld_unit_zero (S := S128) zero1, View.ld_unit_zero (S := S128x128) zero2, View.ld_unit_zero (S := S16x10000) zero2]
  rfl

/-- Call 4: the array of window 15 ends at what the body leaves there. -/
theorem arr3_15 (c : Dev nD) (X : Vec F S1x16 .f32) (h : ∀ t, (dat3 V c).after 15 t = X) :
    (dat3 V c).arrAt 15 cfg3.N = X := by
  refine (dat3 V c).arrAt_eq_of_covers 15 X (by decide +kernel) fun t hf y => ?_
  rw [h]
  exact congrArg X (funext fun _ => Fin.ext (unmoved _ _).symm)

/-- Call 4: the array of window 15 at the end. -/
theorem val3_15 (c : Dev nD) : (dat3 V c).arrAt 15 cfg3.N = k3_pay1 (k3_pay5 (k3_pay2 (first (V c main_v102_3)) (V c main_v102_1) (V c main_v102_2) (V c main_v150) (V c main_v102_0) (upper (V c main_v147)) (lower (V c main_v147)) (V c main_arg17)) (k3_pay3 (first (V c main_v102_3)) (V c main_v102_1) (V c main_v102_2) (V c main_v150) (V c main_v102_0) (upper (V c main_v147)) (lower (V c main_v147)) (V c main_arg17)) (V c main_arg18) (V c main_arg19) (V c main_arg20) (V c main_arg21)) (k3_pay6 (k3_pay2 (first (V c main_v102_3)) (V c main_v102_1) (V c main_v102_2) (V c main_v150) (V c main_v102_0) (upper (V c main_v147)) (lower (V c main_v147)) (V c main_arg17)) (k3_pay3 (first (V c main_v102_3)) (V c main_v102_1) (V c main_v102_2) (V c main_v150) (V c main_v102_0) (upper (V c main_v147)) (lower (V c main_v147)) (V c main_arg17)) (V c main_arg18) (V c main_arg19) (V c main_arg20) (V c main_arg22)) :=
  arr3_15 V c _ fun t => by
    rw [after3_15, iblk3_0, iblk3_1, iblk3_2, iblk3_3, iblk3_4, iblk3_5, iblk3_6, iblk3_7, iblk3_8, iblk3_9, iblk3_10, iblk3_11]
    exact pay3_15 (V c main_v147) (V c main_v150) (V c main_v102_0) (V c main_v102_1) (V c main_v102_2) (V c main_v102_3) (V c main_arg17) (V c main_arg18) (V c main_arg19) (V c main_arg20) (V c main_arg21) (V c main_arg22)

/-- Call 5: window 0 reads its whole array. -/
theorem iblk4_0 (c : Dev nD) (t : Fin cfg4.N) : Gen.iblk4 V c 0 t = V c main_v196 :=
  funext fun _ => congrArg (V c main_v196) (funext fun _ => Fin.ext (unmoved _ _))

/-- Call 5: window 1 reads its whole array. -/
theorem iblk4_1 (c : Dev nD) (t : Fin cfg4.N) : Gen.iblk4 V c 1 t = V c main_v199 :=
  funext fun _ => congrArg (V c main_v199) (funext fun _ => Fin.ext (unmoved _ _))

/-- Call 5: window 2 reads its whole array. -/
theorem iblk4_2 (c : Dev nD) (t : Fin cfg4.N) : Gen.iblk4 V c 2 t = V c main_v151_0 :=
  funext fun _ => congrArg (V c main_v151_0) (funext fun _ => Fin.ext (unmoved _ _))

/-- Call 5: window 3 reads its whole array. -/
theorem iblk4_3 (c : Dev nD) (t : Fin cfg4.N) : Gen.iblk4 V c 3 t = V c main_v151_1 :=
  funext fun _ => congrArg (V c main_v151_1) (funext fun _ => Fin.ext (unmoved _ _))

/-- Call 5: window 4 reads its whole array. -/
theorem iblk4_4 (c : Dev nD) (t : Fin cfg4.N) : Gen.iblk4 V c 4 t = V c main_v151_2 :=
  funext fun _ => congrArg (V c main_v151_2) (funext fun _ => Fin.ext (unmoved _ _))

/-- Call 5: window 5 reads its whole array. -/
theorem iblk4_5 (c : Dev nD) (t : Fin cfg4.N) : Gen.iblk4 V c 5 t = V c main_v151_3 :=
  funext fun _ => congrArg (V c main_v151_3) (funext fun _ => Fin.ext (unmoved _ _))

/-- Call 5: window 6 reads its whole array. -/
theorem iblk4_6 (c : Dev nD) (t : Fin cfg4.N) : Gen.iblk4 V c 6 t = V c main_arg23 :=
  funext fun _ => congrArg (V c main_arg23) (funext fun _ => Fin.ext (unmoved _ _))

/-- Call 5: window 7 reads its whole array. -/
theorem iblk4_7 (c : Dev nD) (t : Fin cfg4.N) : Gen.iblk4 V c 7 t = V c main_arg24 :=
  funext fun _ => congrArg (V c main_arg24) (funext fun _ => Fin.ext (unmoved _ _))

/-- Call 5: window 8 reads its whole array. -/
theorem iblk4_8 (c : Dev nD) (t : Fin cfg4.N) : Gen.iblk4 V c 8 t = V c main_arg25 :=
  funext fun _ => congrArg (V c main_arg25) (funext fun _ => Fin.ext (unmoved _ _))

/-- Call 5: window 9 reads its whole array. -/
theorem iblk4_9 (c : Dev nD) (t : Fin cfg4.N) : Gen.iblk4 V c 9 t = V c main_arg26 :=
  funext fun _ => congrArg (V c main_arg26) (funext fun _ => Fin.ext (unmoved _ _))

/-- Call 5: window 10 reads its whole array. -/
theorem iblk4_10 (c : Dev nD) (t : Fin cfg4.N) : Gen.iblk4 V c 10 t = V c main_arg27 :=
  funext fun _ => congrArg (V c main_arg27) (funext fun _ => Fin.ext (unmoved _ _))

/-- Call 5: window 11 reads its whole array. -/
theorem iblk4_11 (c : Dev nD) (t : Fin cfg4.N) : Gen.iblk4 V c 11 t = V c main_arg28 :=
  funext fun _ => congrArg (V c main_arg28) (funext fun _ => Fin.ext (unmoved _ _))

/-- Call 5: window 12 reads its whole array. -/
theorem iblk4_12 (c : Dev nD) (t : Fin cfg4.N) : Gen.iblk4 V c 12 t = V c main_arg29 :=
  funext fun _ => congrArg (V c main_arg29) (funext fun _ => Fin.ext (unmoved _ _))

/-- Call 5: window 13 reads its whole array. -/
theorem iblk4_13 (c : Dev nD) (t : Fin cfg4.N) : Gen.iblk4 V c 13 t = V c main_arg30 :=
  funext fun _ => congrArg (V c main_arg30) (funext fun _ => Fin.ext (unmoved _ _))

/-- Call 5: window 14 reads its whole array. -/
theorem iblk4_14 (c : Dev nD) (t : Fin cfg4.N) : Gen.iblk4 V c 14 t = V c main_arg31 :=
  funext fun _ => congrArg (V c main_arg31) (funext fun _ => Fin.ext (unmoved _ _))

/-- Call 5: what the body stores in window 15. -/
theorem pay4_15 (x0 : Vec F S20000x64 .f32) (x1 : Vec F S16x10000 .f32) (x2 : Vec F S10000x128 .f32) (x3 : Vec F S10000x1 .f32) (x4 : Vec F S10000x1 .f32) (x5 : Vec F S1x16 .f32) (x6 : Vec F S128 .f32) (x7 : Vec F S128 .f32) (x8 : Vec F S128 .f32) (x9 : Vec F S128x128 .f32) (x10 : Vec F S128 .f32) (x11 : Vec F S128x128 .f32) (x12 : Vec F S128 .f32) (x13 : Vec F S128x40 .f32) (x14 : Vec F S40 .f32) :
    out4_15 x0 x1 x2 x3 x4 x5 x6 x7 x8 x9 x10 x11 x12 x13 x14 = k4_pay1 (k4_pay4 (k4_pay2 (first x5) x3 x4 x1 x2 (upper x0) (lower x0) x6) (k4_pay3 (first x5) x3 x4 x1 x2 (upper x0) (lower x0) x6) x7 x8 x9 x10 x11 x12 x13 x14) := by
  unfold out4_15
  rw [View.canon_unit_zero (S := S10000x40) zero2]
  simp only [View.ld_unit_zero (S := S10000x1) zero2, View.ld_unit_zero (S := S10000x128) zero2, View.ld_unit_zero (S := S128) zero1, View.ld_unit_zero (S := S128x128) zero2, View.ld_unit_zero (S := S128x40) zero2, View.ld_unit_zero (S := S16x10000) zero2, View.ld_unit_zero (S := S40) zero1]
  rfl

/-- Call 5: the array of window 15 ends at what the body leaves there. -/
theorem arr4_15 (c : Dev nD) (X : Vec F S10000x40 .f32) (h : ∀ t, (dat4 V c).after 15 t = X) :
    (dat4 V c).arrAt 15 cfg4.N = X := by
  refine (dat4 V c).arrAt_eq_of_covers 15 X (by decide +kernel) fun t hf y => ?_
  rw [h]
  exact congrArg X (funext fun _ => Fin.ext (unmoved _ _).symm)

/-- Call 5: the array of window 15 at the end. -/
theorem val4_15 (c : Dev nD) : (dat4 V c).arrAt 15 cfg4.N = k4_pay1 (k4_pay4 (k4_pay2 (first (V c main_v151_3)) (V c main_v151_1) (V c main_v151_2) (V c main_v199) (V c main_v151_0) (upper (V c main_v196)) (lower (V c main_v196)) (V c main_arg23)) (k4_pay3 (first (V c main_v151_3)) (V c main_v151_1) (V c main_v151_2) (V c main_v199) (V c main_v151_0) (upper (V c main_v196)) (lower (V c main_v196)) (V c main_arg23)) (V c main_arg24) (V c main_arg25) (V c main_arg26) (V c main_arg27) (V c main_arg28) (V c main_arg29) (V c main_arg30) (V c main_arg31)) :=
  arr4_15 V c _ fun t => by
    rw [after4_15, iblk4_0, iblk4_1, iblk4_2, iblk4_3, iblk4_4, iblk4_5, iblk4_6, iblk4_7, iblk4_8, iblk4_9, iblk4_10, iblk4_11, iblk4_12, iblk4_13, iblk4_14]
    exact pay4_15 (V c main_v196) (V c main_v199) (V c main_v151_0) (V c main_v151_1) (V c main_v151_2) (V c main_v151_3) (V c main_arg23) (V c main_arg24) (V c main_arg25) (V c main_arg26) (V c main_arg27) (V c main_arg28) (V c main_arg29) (V c main_arg30) (V c main_arg31)

end Cert.Proof.Region

end
-- ==== Proof.EdgeReal.lean ====
/-
  The edge phase among the reals: what the accumulators hold when the node features and their scores are real.
-/
module

public import proofs.«01_k».proof.Proof.EdgeHost
public import proofs.«01_k».proof.Proof.KernelRegion

@[expose] public section

set_option maxRecDepth 16384

noncomputable section

namespace Cert.Proof

open Idealize.ShloMosaic hiding ix1 ix2
open Idealize.ShloMosaic.ValueIdx Cert.KernelIdeal Cert.KernelIdeal.Gen
open Cert.Proof.EdgeHost Cert.Proof.Region

variable (e : IVec S2x320000 32)

/-- The first end of an edge is in the first row. -/
theorem srcs_ix (k : Fin 320000) : srcs e (ix1 k) = e (ix2 0 k) := by
  unfold srcs
  refine (shapeCast_apply _ _ (ix1 k) (ix2 0 k) ?_).trans ?_
  · rw [Shape.rowMajor_val_one, Shape.rowMajor_val_two]
    show 0 * 320000 + k.val = k.val
    omega
  · refine extractStridedSlice_apply _ _ _ _ (ix2 0 k) fun a => ?_
    match a with
    | ⟨0, _⟩ => rfl
    | ⟨1, _⟩ => show k.val = 0 + k.val; omega

/-- The second end of an edge is in the second row. -/
theorem dsts_ix (k : Fin 320000) : dsts e (ix1 k) = e (ix2 1 k) := by
  unfold dsts
  refine (shapeCast_apply _ _ (ix1 k) (ix2 0 k) ?_).trans ?_
  · rw [Shape.rowMajor_val_one, Shape.rowMajor_val_two]
    show 0 * 320000 + k.val = k.val
    omega
  · refine extractStridedSlice_apply _ _ _ _ (ix2 1 k) fun a => ?_
    match a with
    | ⟨0, _⟩ => rfl
    | ⟨1, _⟩ => show k.val = 0 + k.val; omega

/-- The column of places holds the numbers themselves. -/
theorem places_ix (w : IVec S320000 32) (k : Fin 320000) : places w (ix2 k 0) = w (ix1 k) :=
  broadcastInDim_apply _ _ _ _ (ix1 k) fun a => by match a with | ⟨0, _⟩ => rfl

/-- The row read for a number is that of the node it names. -/
theorem starts_ix (w : IVec S320000 32) (k : Fin 320000) : rowOf 10000 (by decide) (starts w (ix2 k 0)) = node (w (ix1 k)) := by
  unfold starts
  rw [broadcastInDim_apply _ _ _ _ (ix1 k) fun a => by match a with | ⟨0, _⟩ => rfl]
  rfl

variable (G : Edges 320000 10000) (s d : Fin 10000 → ℝ) (m : ℝ) (h : Fin 10000 → Fin 128 → ℝ)

/-- A column, laid flat, is the vector it was made of. -/
theorem column (f : Fin 10000 → ℝ) : shapeCast S10000 (arr2 (col f) : Vec Ideal S10000x1 .f32) shapeCasts_S10000x1_S10000 = arr1 f :=
  eq_arr1 fun n => shapeCast_apply _ _ (ix1 n) (ix2 n 0) (by
    rw [Shape.rowMajor_val_one, Shape.rowMajor_val_two]
    show n.val * 1 + 0 = n.val
    omega)

/-- The score of edge `k` before rectifying, the node arrived at counted from the end when negative. -/
def edgeScore (k : Fin 320000) : ℝ := s (node (e (ix2 0 k))) + d (node (e (ix2 1 k)))

/-- The scores of the edges are the sums of their ends' scores. -/
theorem raw_real : raw (F := Ideal) (arr2 (col s)) (arr2 (col d)) (srcs e) (dsts e) = arr1 (edgeScore e s d) := by
  unfold raw
  rw [column, column]
  refine eq_arr1 fun k => ?_
  have h1 := (gatherVec_apply (N := 10000) (R := 320000) (by decide)
    gather_S10000_S320000x1_S320000_n_0_n_n_0_1_1.wf (arr1 s) (starts (srcs e)) k)
  have h2 := (gatherVec_apply (N := 10000) (R := 320000) (by decide)
    gather_S10000_S320000x1_S320000_n_0_n_n_0_1_1.wf (arr1 d) (starts (dsts e)) k)
  rw [starts_ix, srcs_ix] at h1
  rw [starts_ix, dsts_ix] at h2
  refine (congrArg₂ (fun x y : EReal => x + y) h1 h2).trans ?_
  exact (EReal.coe_add _ _).symm

/-- The shift read from its row is the one number there. -/
theorem shift_word : shift (F := Ideal) (arr2 fun _ _ => m) = fun _ => (m : EReal) := rfl

/-- An edge's weight is the exponential of its shifted score. -/
theorem weight_real : weight (F := Ideal) (arr2 (col s)) (arr2 (col d)) (arr2 fun _ _ => m) (srcs e) (dsts e)
    = arr1 fun k => Real.exp (leak (edgeScore e s d k) - m) := by
  unfold weight
  rw [raw_real, shift_word]
  refine eq_arr1 fun k => ?_
  show Ideal.exp (max ((edgeScore e s d k : ℝ) : EReal)
    (Ideal.ofBits .f32 0x3E4CCCCD#32 * ((edgeScore e s d k : ℝ) : EReal)) - (m : EReal)) = _
  rw [lit_slope, ← EReal.coe_mul, ← coe_max_real, ← EReal.coe_sub]
  exact Ideal.exp_coe _

/-- The weights arriving at `n`, summed. -/
theorem sums_real : sums (F := Ideal) (arr1 fun k => Real.exp (leak (edgeScore e s d k) - m)) (dsts e)
    = arr1 fun n => ∑ k, if (graph e).dst k = (n.val : Int) then Real.exp (leak (s ((graph e).src k) + d n) - m) else 0 := by
  refine eq_arr1 fun n => ?_
  unfold sums
  refine (scatterVec_apply (N := 10000) (R := 320000) scatter_S10000_S320000x1_S320000_n_0_0_1.wf _ _ _ n).trans ?_
  have hz : broadcastInDim S10000 ![] bcast_S_S10000 (constant (F := Ideal) S_ .f32 0x00000000#32) (ix1 n) = (0 : EReal) :=
    Ideal.ofBits_zero_f32
  rw [hz, zero_add, coe_sum_real]
  refine Finset.sum_congr rfl fun k _ => ?_
  rw [places_ix, dsts_ix]
  show (if (graph e).dst k = (n.val : Int) then _ else _) = _
  split
  · next hk =>
    have : node (e (ix2 1 k)) = n := node_of_toInt hk
    show ((Real.exp (leak (edgeScore e s d k) - m) : ℝ) : EReal) = _
    unfold edgeScore
    rw [this]
    rfl
  · rfl

/-- The weighted features arriving at `n`, summed. -/
theorem rows_real : rows (F := Ideal) (arr2 h) (arr1 fun k => Real.exp (leak (edgeScore e s d k) - m)) (srcs e) (dsts e)
    = arr2 fun n c => ∑ k, if (graph e).dst k = (n.val : Int)
        then Real.exp (leak (s ((graph e).src k) + d n) - m) * h ((graph e).src k) c else 0 := by
  refine eq_arr2 fun n c => ?_
  unfold rows
  refine (scatterRows_apply (N := 10000) (R := 320000) (C := 128) scatter_S10000x128_S320000x1_S320000x128_1_0_0_1.wf _ _ _ n c).trans ?_
  have hz : broadcastInDim S10000x128 ![] bcast_S_S10000x128 (constant (F := Ideal) S_ .f32 0x00000000#32) (ix2 n c) = (0 : EReal) :=
    Ideal.ofBits_zero_f32
  rw [hz, zero_add, coe_sum_real]
  refine Finset.sum_congr rfl fun k _ => ?_
  rw [places_ix, dsts_ix]
  show (if (graph e).dst k = (n.val : Int) then _ else _) = _
  split
  · next hk =>
    have hn : node (e (ix2 1 k)) = n := node_of_toInt hk
    have h1 := gatherRows_apply (N := 10000) (R := 320000) (C := 128) (by decide)
      gather_S10000x128_S320000x1_S320000x128_1_0_n_n_0_1_1128.wf (arr2 h) (starts (srcs e)) k c
    rw [starts_ix, srcs_ix] at h1
    have h2 : broadcastInDim S320000x128 ![0, 1] bcast_S320000x1_S320000x128_0_1
        (broadcastInDim S320000x1 ![0] bcast_S320000_S320000x1_0
          (arr1 fun k => Real.exp (leak (edgeScore e s d k) - m) : Vec Ideal S320000 .f32)) (ix2 k c)
        = ((Real.exp (leak (edgeScore e s d k) - m) : ℝ) : EReal) := by
      rw [broadcastInDim_apply _ _ _ _ (ix2 k 0) fun a => by match a with | ⟨0, _⟩ => rfl | ⟨1, _⟩ => rfl]
      exact broadcastInDim_apply _ _ _ _ (ix1 k) fun a => by match a with | ⟨0, _⟩ => rfl
    refine (congrArg₂ (fun x y : EReal => x * y) h1 h2).trans ?_
    refine (EReal.coe_mul _ _).symm.trans (congrArg Real.toEReal ?_)
    rw [mul_comm]
    unfold edgeScore
    rw [hn]
    rfl
  · rfl

/-! ## How the accumulators are laid out -/

/-- The upper rows of the stacked accumulator hold the first half of the features. -/
theorem upper_stacked (x : Fin 10000 → Fin 128 → ℝ) :
    upper (F := Ideal) (stacked (arr2 x)) = arr2 fun n (c : Fin 64) => x n ⟨c.val, by omega⟩ := by
  refine eq_arr2 fun n c => ?_
  unfold upper stacked
  refine (concatenate_pair_apply_left 0 _ _ concatenates_S10000x64_S10000x64_S20000x64_d0 _ rfl (ix2 n c) fun b => ?_).trans ?_
  · match b with
    | ⟨0, _⟩ => show n.val = 0 + 1 * n.val; omega
    | ⟨1, _⟩ => show c.val = 0 + 1 * c.val; omega
  · exact extractStridedSlice_apply _ _ _ _ (ix2 n (⟨c.val, by omega⟩ : Fin 128)) fun a => by
      match a with
      | ⟨0, _⟩ => show n.val = 0 + n.val; omega
      | ⟨1, _⟩ => show c.val = 0 + c.val; omega

/-- The lower rows of the stacked accumulator hold the second half of the features. -/
theorem lower_stacked (x : Fin 10000 → Fin 128 → ℝ) :
    lower (F := Ideal) (stacked (arr2 x)) = arr2 fun n (c : Fin 64) => x n ⟨64 + c.val, by omega⟩ := by
  refine eq_arr2 fun n c => ?_
  unfold lower stacked
  refine (concatenate_pair_apply_right 0 _ _ concatenates_S10000x64_S10000x64_S20000x64_d0 _ rfl rfl (ix2 n c) (fun b hb => ?_) ?_).trans ?_
  · match b with
    | ⟨0, _⟩ => exact absurd rfl hb
    | ⟨1, _⟩ => show c.val = 0 + 1 * c.val; omega
  · show n.val + 10000 = 10000 + 1 * n.val
    omega
  · exact extractStridedSlice_apply _ _ _ _ (ix2 n (⟨64 + c.val, by omega⟩ : Fin 128)) fun a => by
      match a with
      | ⟨0, _⟩ => show n.val = 0 + n.val; omega
      | ⟨1, _⟩ => rfl

/-- The two halves of the columns put side by side again. -/
theorem halves_split (x : Fin 10000 → Fin 128 → ℝ) (n : Fin 10000) (c : Fin 128) :
    halves (fun n (c : Fin 64) => x n ⟨c.val, by omega⟩) (fun n (c : Fin 64) => x n ⟨64 + c.val, by omega⟩) n c = x n c := by
  unfold halves
  split
  · rfl
  · refine congrArg (x n) (Fin.ext ?_)
    show 64 + (c.val - 64) = c.val
    omega

/-- A vector as the first of sixteen rows, the others zero. -/
theorem padded_real (z : Fin 10000 → ℝ) : padded (F := Ideal) (arr1 z) = arr2 fun p n => if p = 0 then z n else 0 := by
  refine eq_arr2 fun p n => ?_
  unfold padded
  refine (shapeCast_apply _ _ (ix2 p n) (ix1 (⟨p.val * 10000 + n.val, by omega⟩ : Fin 160000)) ?_).trans ?_
  · rw [Shape.rowMajor_val_one, Shape.rowMajor_val_two]
    rfl
  by_cases hp : p = 0
  · subst hp
    refine (concatenate_pair_apply_left 0 _ _ concatenates_S10000_S150000_S160000_d0 _ rfl (ix1 n) fun b => ?_).trans rfl
    match b with
    | ⟨0, _⟩ => show n.val = 0 * 10000 + n.val; omega
  · rw [if_neg hp]
    have h0 : p.val ≠ 0 := fun h => hp (Fin.ext h)
    refine (concatenate_pair_apply_right 0 _ _ concatenates_S10000_S150000_S160000_d0 _ rfl rfl
      (ix1 (⟨p.val * 10000 + n.val - 10000, by omega⟩ : Fin 150000)) (fun b hb => ?_) ?_).trans ?_
    · match b with
      | ⟨0, _⟩ => exact absurd rfl hb
    · show p.val * 10000 + n.val - 10000 + 10000 = p.val * 10000 + n.val
      omega
    · exact Ideal.ofBits_zero_f32

/-- The rows of zeros add nothing to the sums. -/
theorem sum_padded (z : Fin 10000 → ℝ) (n : Fin 10000) : (∑ p : Fin 16, if p = 0 then z n else 0) = z n := by
  simp

/-- The first word of a constant row is the constant. -/
theorem first_word (m : ℝ) : first (F := Ideal) (arr2 fun _ _ => m) = arr2 fun _ _ => m := rfl

end Cert.Proof

end
-- ==== Proof.Chain.lean ====
/-
  The arrays at each boundary of the kernel's run, among the reals, up to its result.
-/
module

public import proofs.«01_k».proof.Proof.EdgeReal

@[expose] public section

set_option maxRecDepth 16384

noncomputable section

namespace Cert.Proof

open Idealize.ShloMosaic hiding ix1 ix2
open Idealize.ShloMosaic.ValueIdx Idealize.ShloMosaic.TcCoe Cert.KernelIdeal Cert.KernelIdeal.Gen
open Cert.Proof.EdgeHost Cert.Proof.Region

/-! ## A middle region's rows and their means -/

section Middle

variable (e : IVec S2x320000 32) (s d : Fin 10000 → ℝ) (m : ℝ) (h : Fin 10000 → Fin 128 → ℝ) (b : Fin 128 → ℝ)

/-- The weights of the edges, from the scores as the program holds them. -/
def weights : Vec Ideal S320000 .f32 := weight (arr2 (col s)) (arr2 (col d)) (arr2 fun _ _ => m) (srcs e) (dsts e)

/-- The sum of the weights of the edges that enter each node. -/
def entering (n : Fin 10000) : ℝ :=
  ∑ k, if (graph e).dst k = (n.val : Int) then Real.exp (leak (s ((graph e).src k) + d n) - m) else 0

/-- The weighted rows of the edges that enter each node, added. -/
def gathered (n : Fin 10000) (c : Fin 128) : ℝ :=
  ∑ k, if (graph e).dst k = (n.val : Int) then Real.exp (leak (s ((graph e).src k) + d n) - m) * h ((graph e).src k) c else 0

/-- A middle call's rows are the attention of its layer, rectified. -/
theorem middle_conv : k1_pay2 (F := Ideal) (first (arr2 fun _ _ => m)) (arr2 (col s)) (arr2 (col d))
    (padded (sums (weights e s d m) (dsts e))) (arr2 h)
    (upper (stacked (rows (arr2 h) (weights e s d m) (srcs e) (dsts e))))
    (lower (stacked (rows (arr2 h) (weights e s d m) (srcs e) (dsts e)))) (arr1 b)
    = arr2 (activate (attend (graph e) h s d) b) := by
  have hw : sums (weights e s d m) (dsts e) = arr1 (entering e s d m) := by
    unfold weights
    rw [weight_real]
    exact sums_real e s d m
  have hr : rows (arr2 h) (weights e s d m) (srcs e) (dsts e) = arr2 (gathered e s d m h) := by
    unfold weights
    rw [weight_real]
    exact rows_real e s d m h
  rw [hw, hr, padded_real, upper_stacked, lower_stacked, first_word]
  exact pay2_conv (graph e) m s d (fun p n => if p = 0 then entering e s d m n else 0) h _ _ b
    (fun n => sum_padded (entering e s d m) n) fun n c => halves_split (gathered e s d m h) n c

/-- A middle call's means are those of its rows. -/
theorem middle_mean : k1_pay3 (F := Ideal) (first (arr2 fun _ _ => m)) (arr2 (col s)) (arr2 (col d))
    (padded (sums (weights e s d m) (dsts e))) (arr2 h)
    (upper (stacked (rows (arr2 h) (weights e s d m) (srcs e) (dsts e))))
    (lower (stacked (rows (arr2 h) (weights e s d m) (srcs e) (dsts e)))) (arr1 b)
    = arr2 fun _ c => mean (activate (attend (graph e) h s d) b) c := by
  rw [← mean_real, ← middle_conv e s d m h b]
  rfl

end Middle

/-! ## The later regions' payloads are the first middle region's -/

/-- Call 3's payload 1 is the first middle call's. -/
theorem k2_pay1_eq : @k2_pay1 Ideal _ = @k1_pay1 Ideal _ := rfl
/-- Call 3's payload 2 is the first middle call's. -/
theorem k2_pay2_eq : @k2_pay2 Ideal _ = @k1_pay2 Ideal _ := rfl
/-- Call 3's payload 3 is the first middle call's. -/
theorem k2_pay3_eq : @k2_pay3 Ideal _ = @k1_pay3 Ideal _ := rfl
/-- Call 3's payload 4 is the first middle call's. -/
theorem k2_pay4_eq : @k2_pay4 Ideal _ = @k1_pay4 Ideal _ := rfl
/-- Call 3's payload 5 is the first middle call's. -/
theorem k2_pay5_eq : @k2_pay5 Ideal _ = @k1_pay5 Ideal _ := rfl
/-- Call 3's payload 6 is the first middle call's. -/
theorem k2_pay6_eq : @k2_pay6 Ideal _ = @k1_pay6 Ideal _ := rfl
/-- Call 4's payload 1 is the first middle call's. -/
theorem k3_pay1_eq : @k3_pay1 Ideal _ = @k1_pay1 Ideal _ := rfl
/-- Call 4's payload 2 is the first middle call's. -/
theorem k3_pay2_eq : @k3_pay2 Ideal _ = @k1_pay2 Ideal _ := rfl
/-- Call 4's payload 3 is the first middle call's. -/
theorem k3_pay3_eq : @k3_pay3 Ideal _ = @k1_pay3 Ideal _ := rfl
/-- Call 4's payload 4 is the first middle call's. -/
theorem k3_pay4_eq : @k3_pay4 Ideal _ = @k1_pay4 Ideal _ := rfl
/-- Call 4's payload 5 is the first middle call's. -/
theorem k3_pay5_eq : @k3_pay5 Ideal _ = @k1_pay5 Ideal _ := rfl
/-- Call 4's payload 6 is the first middle call's. -/
theorem k3_pay6_eq : @k3_pay6 Ideal _ = @k1_pay6 Ideal _ := rfl
/-- Call 5's payload 2 is the first middle call's. -/
theorem k4_pay2_eq : @k4_pay2 Ideal _ = @k1_pay2 Ideal _ := rfl
/-- Call 5's payload 3 is the first middle call's. -/
theorem k4_pay3_eq : @k4_pay3 Ideal _ = @k1_pay3 Ideal _ := rfl

end Cert.Proof

end
-- ==== Proof.Stage.lean ====
/-
  The arrays at each boundary of the kernel's run, followed from its arguments to its result.
-/
module

public import proofs.«01_k».proof.Proof.Chain
public import proofs.«01_k».proof.Proof.Gen.KernelIdeal.Frame

@[expose] public section

set_option maxRecDepth 16384
set_option maxHeartbeats 2000000

noncomputable section

namespace Cert.Proof.Stage

open Idealize.ShloMosaic hiding ix1 ix2
open Idealize.ShloMosaic.ValueIdx Idealize.ShloMosaic.TcCoe Cert.KernelIdeal Cert.KernelIdeal.Gen
open Cert.Proof Cert.Proof.EdgeHost Cert.Proof.Region

variable (mem : (ℓ : Loc nD τ sig) → Buf (Elt Ideal) ℓ) (ρ : Dev nD → PrngReg) (c : Dev nD)
variable {e : IVec S2x320000 32}

/-- After the first region: the rows, their scores, a shift and the edges' ends. -/
theorem start {X : Fin 10000 → Fin 128 → ℝ} {w : Fin 128 → Fin 128 → ℝ} {a a' : Fin 128 → ℝ}
    (hx : mem ((c : Thread nD τ).loc main_arg0) = arr2 X) (he : mem ((c : Thread nD τ).loc main_arg1) = e)
    (hw : mem ((c : Thread nD τ).loc main_arg2) = arr2 w) (ha : mem ((c : Thread nD τ).loc main_arg3) = arr1 a)
    (ha' : mem ((c : Thread nD τ).loc main_arg4) = arr1 a') :
    V2 mem ρ c main_v4_0 = arr2 (prod X w) ∧ V2 mem ρ c main_v4_1 = arr2 (col (score (prod X w) a))
      ∧ V2 mem ρ c main_v4_2 = arr2 (col (score (prod X w) a')) ∧ (∃ m : ℝ, V2 mem ρ c main_v4_3 = arr2 fun _ _ => m)
      ∧ V2 mem ρ c main_v1 = srcs e ∧ V2 mem ρ c main_v3 = dsts e := by
  have k0 : V1 mem ρ c main_arg0 = arr2 X := (W1_args mem ρ c main_arg0 (by decide)).trans hx
  have k2 : V1 mem ρ c main_arg2 = arr2 w := (W1_args mem ρ c main_arg2 (by decide)).trans hw
  have k3 : V1 mem ρ c main_arg3 = arr1 a := (W1_args mem ρ c main_arg3 (by decide)).trans ha
  have k4 : V1 mem ρ c main_arg4 = arr1 a' := (W1_args mem ρ c main_arg4 (by decide)).trans ha'
  refine ⟨?_, ?_, ?_, ?_, ?_, ?_⟩
  · refine (W2_arr mem ρ c 4).trans ((val0_4 (V1 mem ρ) c).trans ?_)
    rw [k0, k2]
    exact k0_h X w
  · refine (W2_arr mem ρ c 5).trans ((val0_5 (V1 mem ρ) c).trans ?_)
    rw [k0, k2, k3]
    exact k0_s X w a
  · refine (W2_arr mem ρ c 6).trans ((val0_6 (V1 mem ρ) c).trans ?_)
    rw [k0, k2, k4]
    exact k0_d X w a'
  · obtain ⟨m, hm⟩ := k0_shift X w a a'
    refine ⟨m, (W2_arr mem ρ c 7).trans ((val0_7 (V1 mem ρ) c).trans ?_)⟩
    rw [k0, k2, k3, k4]
    exact hm
  · exact (W2_of mem ρ c main_v1 (by decide)).trans ((src0 (W0 mem ρ c)).trans (congrArg srcs he))
  · exact (W2_of mem ρ c main_v3 (by decide)).trans ((dst0 (W0 mem ρ c)).trans (congrArg dsts he))

/-- After region 1: the next layer's rows, scores, shift and the edges' ends. -/
theorem second {h : Fin 10000 → Fin 128 → ℝ} {s d : Fin 10000 → ℝ} {m : ℝ} {b g be a a' : Fin 128 → ℝ}
    {w : Fin 128 → Fin 128 → ℝ}
    (h0 : V2 mem ρ c main_v4_0 = arr2 h) (h1 : V2 mem ρ c main_v4_1 = arr2 (col s)) (h2 : V2 mem ρ c main_v4_2 = arr2 (col d))
    (h3 : V2 mem ρ c main_v4_3 = arr2 fun _ _ => m) (hs : V2 mem ρ c main_v1 = srcs e) (hd : V2 mem ρ c main_v3 = dsts e)
    (q5 : mem ((c : Thread nD τ).loc main_arg5) = arr1 b) (q6 : mem ((c : Thread nD τ).loc main_arg6) = arr1 g)
    (q7 : mem ((c : Thread nD τ).loc main_arg7) = arr1 be) (q8 : mem ((c : Thread nD τ).loc main_arg8) = arr2 w)
    (q9 : mem ((c : Thread nD τ).loc main_arg9) = arr1 a) (q10 : mem ((c : Thread nD τ).loc main_arg10) = arr1 a') :
    V4 mem ρ c main_v53_0 = arr2 (prod (normalise (activate (attend (graph e) h s d) b) g be) w)
      ∧ V4 mem ρ c main_v53_1 = arr2 (col (score (prod (normalise (activate (attend (graph e) h s d) b) g be) w) a))
      ∧ V4 mem ρ c main_v53_2 = arr2 (col (score (prod (normalise (activate (attend (graph e) h s d) b) g be) w) a'))
      ∧ (∃ m : ℝ, V4 mem ρ c main_v53_3 = arr2 fun _ _ => m)
      ∧ V4 mem ρ c main_v1 = srcs e ∧ V4 mem ρ c main_v3 = dsts e := by
  have k5 : V3 mem ρ c main_arg5 = arr1 b := (W3_args mem ρ c main_arg5 (by decide)).trans q5
  have k6 : V3 mem ρ c main_arg6 = arr1 g := (W3_args mem ρ c main_arg6 (by decide)).trans q6
  have k7 : V3 mem ρ c main_arg7 = arr1 be := (W3_args mem ρ c main_arg7 (by decide)).trans q7
  have k8 : V3 mem ρ c main_arg8 = arr2 w := (W3_args mem ρ c main_arg8 (by decide)).trans q8
  have k9 : V3 mem ρ c main_arg9 = arr1 a := (W3_args mem ρ c main_arg9 (by decide)).trans q9
  have k10 : V3 mem ρ c main_arg10 = arr1 a' := (W3_args mem ρ c main_arg10 (by decide)).trans q10
  have p0 : V3 mem ρ c main_v4_0 = arr2 h := (W3_of mem ρ c main_v4_0 (by decide)).trans h0
  have p1 : V3 mem ρ c main_v4_1 = arr2 (col s) := (W3_of mem ρ c main_v4_1 (by decide)).trans h1
  have p2 : V3 mem ρ c main_v4_2 = arr2 (col d) := (W3_of mem ρ c main_v4_2 (by decide)).trans h2
  have p3 : V3 mem ρ c main_v4_3 = arr2 fun _ _ => m := (W3_of mem ρ c main_v4_3 (by decide)).trans h3
  have ha : V3 mem ρ c main_v49 = stacked (rows (arr2 h) (weights e s d m) (srcs e) (dsts e)) := by
    refine (acc1 (W2 mem ρ c)).trans ?_
    change stacked (rows (V2 mem ρ c main_v4_0) (weight (V2 mem ρ c main_v4_1) (V2 mem ρ c main_v4_2) (V2 mem ρ c main_v4_3) (V2 mem ρ c main_v1) (V2 mem ρ c main_v3)) (V2 mem ρ c main_v1) (V2 mem ρ c main_v3)) = _
    rw [h0, h1, h2, h3, hs, hd]
    rfl
  have hz : V3 mem ρ c main_v52 = padded (sums (weights e s d m) (dsts e)) := by
    refine (tot1 (W2 mem ρ c)).trans ?_
    change padded (sums (weight (V2 mem ρ c main_v4_1) (V2 mem ρ c main_v4_2) (V2 mem ρ c main_v4_3) (V2 mem ρ c main_v1) (V2 mem ρ c main_v3)) (V2 mem ρ c main_v3)) = _
    rw [h1, h2, h3, hs, hd]
    rfl
  have hy : k1_pay2 (first (V3 mem ρ c main_v4_3)) (V3 mem ρ c main_v4_1) (V3 mem ρ c main_v4_2) (V3 mem ρ c main_v52) (V3 mem ρ c main_v4_0) (upper (V3 mem ρ c main_v49)) (lower (V3 mem ρ c main_v49)) (V3 mem ρ c main_arg5) = arr2 (activate (attend (graph e) h s d) b) := by
    rw [p0, p1, p2, p3, hz, ha, k5]
    exact middle_conv e s d m h b
  have hm : k1_pay3 (first (V3 mem ρ c main_v4_3)) (V3 mem ρ c main_v4_1) (V3 mem ρ c main_v4_2) (V3 mem ρ c main_v52) (V3 mem ρ c main_v4_0) (upper (V3 mem ρ c main_v49)) (lower (V3 mem ρ c main_v49)) (V3 mem ρ c main_arg5) = arr2 fun _ n => mean (activate (attend (graph e) h s d) b) n := by
    rw [p0, p1, p2, p3, hz, ha, k5]
    exact middle_mean e s d m h b
  have h5 : k1_pay5 (F := Ideal) (arr2 (activate (attend (graph e) h s d) b)) (arr2 fun _ n => mean (activate (attend (graph e) h s d) b) n) (arr1 g) (arr1 be) (arr2 w) (arr1 a) = arr2 (col (score (prod (normalise (activate (attend (graph e) h s d) b) g be) w) a)) := by
    exact pay5_real (activate (attend (graph e) h s d) b) g be w a
  have h6 : k1_pay6 (F := Ideal) (arr2 (activate (attend (graph e) h s d) b)) (arr2 fun _ n => mean (activate (attend (graph e) h s d) b) n) (arr1 g) (arr1 be) (arr2 w) (arr1 a') = arr2 (col (score (prod (normalise (activate (attend (graph e) h s d) b) g be) w) a')) := by
    exact pay6_real (activate (attend (graph e) h s d) b) g be w a'
  refine ⟨?_, ?_, ?_, ?_, ?_, ?_⟩
  · refine (W4_arr mem ρ c 12).trans ((val1_12 (V3 mem ρ) c).trans ?_)
    rw [hy, hm, k6, k7, k8]
    exact pay4_real (activate (attend (graph e) h s d) b) g be w
  · refine (W4_arr mem ρ c 13).trans ((val1_13 (V3 mem ρ) c).trans ?_)
    rw [hy, hm, k6, k7, k8, k9]
    exact h5
  · refine (W4_arr mem ρ c 14).trans ((val1_14 (V3 mem ρ) c).trans ?_)
    rw [hy, hm, k6, k7, k8, k10]
    exact h6
  · obtain ⟨m', hm'⟩ := shift_real (col (score (prod (normalise (activate (attend (graph e) h s d) b) g be) w) a)) (col (score (prod (normalise (activate (attend (graph e) h s d) b) g be) w) a'))
    refine ⟨m', (W4_arr mem ρ c 15).trans ((val1_15 (V3 mem ρ) c).trans ?_)⟩
    rw [hy, hm, k6, k7, k8, k9, k10, h5, h6]
    exact hm'
  · exact (W4_of mem ρ c main_v1 (by decide)).trans ((W3_of mem ρ c main_v1 (by decide)).trans hs)
  · exact (W4_of mem ρ c main_v3 (by decide)).trans ((W3_of mem ρ c main_v3 (by decide)).trans hd)

/-- After region 2: the next layer's rows, scores, shift and the edges' ends. -/
theorem third {h : Fin 10000 → Fin 128 → ℝ} {s d : Fin 10000 → ℝ} {m : ℝ} {b g be a a' : Fin 128 → ℝ}
    {w : Fin 128 → Fin 128 → ℝ}
    (h0 : V4 mem ρ c main_v53_0 = arr2 h) (h1 : V4 mem ρ c main_v53_1 = arr2 (col s)) (h2 : V4 mem ρ c main_v53_2 = arr2 (col d))
    (h3 : V4 mem ρ c main_v53_3 = arr2 fun _ _ => m) (hs : V4 mem ρ c main_v1 = srcs e) (hd : V4 mem ρ c main_v3 = dsts e)
    (q11 : mem ((c : Thread nD τ).loc main_arg11) = arr1 b) (q12 : mem ((c : Thread nD τ).loc main_arg12) = arr1 g)
    (q13 : mem ((c : Thread nD τ).loc main_arg13) = arr1 be) (q14 : mem ((c : Thread nD τ).loc main_arg14) = arr2 w)
    (q15 : mem ((c : Thread nD τ).loc main_arg15) = arr1 a) (q16 : mem ((c : Thread nD τ).loc main_arg16) = arr1 a') :
    V6 mem ρ c main_v102_0 = arr2 (prod (normalise (activate (attend (graph e) h s d) b) g be) w)
      ∧ V6 mem ρ c main_v102_1 = arr2 (col (score (prod (normalise (activate (attend (graph e) h s d) b) g be) w) a))
      ∧ V6 mem ρ c main_v102_2 = arr2 (col (score (prod (normalise (activate (attend (graph e) h s d) b) g be) w) a'))
      ∧ (∃ m : ℝ, V6 mem ρ c main_v102_3 = arr2 fun _ _ => m)
      ∧ V6 mem ρ c main_v1 = srcs e ∧ V6 mem ρ c main_v3 = dsts e := by
  have k11 : V5 mem ρ c main_arg11 = arr1 b := (W5_args mem ρ c main_arg11 (by decide)).trans q11
  have k12 : V5 mem ρ c main_arg12 = arr1 g := (W5_args mem ρ c main_arg12 (by decide)).trans q12
  have k13 : V5 mem ρ c main_arg13 = arr1 be := (W5_args mem ρ c main_arg13 (by decide)).trans q13
  have k14 : V5 mem ρ c main_arg14 = arr2 w := (W5_args mem ρ c main_arg14 (by decide)).trans q14
  have k15 : V5 mem ρ c main_arg15 = arr1 a := (W5_args mem ρ c main_arg15 (by decide)).trans q15
  have k16 : V5 mem ρ c main_arg16 = arr1 a' := (W5_args mem ρ c main_arg16 (by decide)).trans q16
  have p0 : V5 mem ρ c main_v53_0 = arr2 h := (W5_of mem ρ c main_v53_0 (by decide)).trans h0
  have p1 : V5 mem ρ c main_v53_1 = arr2 (col s) := (W5_of mem ρ c main_v53_1 (by decide)).trans h1
  have p2 : V5 mem ρ c main_v53_2 = arr2 (col d) := (W5_of mem ρ c main_v53_2 (by decide)).trans h2
  have p3 : V5 mem ρ c main_v53_3 = arr2 fun _ _ => m := (W5_of mem ρ c main_v53_3 (by decide)).trans h3
  have ha : V5 mem ρ c main_v98 = stacked (rows (arr2 h) (weights e s d m) (srcs e) (dsts e)) := by
    refine (acc2 (W4 mem ρ c)).trans ?_
    change stacked (rows (V4 mem ρ c main_v53_0) (weight (V4 mem ρ c main_v53_1) (V4 mem ρ c main_v53_2) (V4 mem ρ c main_v53_3) (V4 mem ρ c main_v1) (V4 mem ρ c main_v3)) (V4 mem ρ c main_v1) (V4 mem ρ c main_v3)) = _
    rw [h0, h1, h2, h3, hs, hd]
    rfl
  have hz : V5 mem ρ c main_v101 = padded (sums (weights e s d m) (dsts e)) := by
    refine (tot2 (W4 mem ρ c)).trans ?_
    change padded (sums (weight (V4 mem ρ c main_v53_1) (V4 mem ρ c main_v53_2) (V4 mem ρ c main_v53_3) (V4 mem ρ c main_v1) (V4 mem ρ c main_v3)) (V4 mem ρ c main_v3)) = _
    rw [h1, h2, h3, hs, hd]
    rfl
  have hy : k2_pay2 (first (V5 mem ρ c main_v53_3)) (V5 mem ρ c main_v53_1) (V5 mem ρ c main_v53_2) (V5 mem ρ c main_v101) (V5 mem ρ c main_v53_0) (upper (V5 mem ρ c main_v98)) (lower (V5 mem ρ c main_v98)) (V5 mem ρ c main_arg11) = arr2 (activate (attend (graph e) h s d) b) := by
    rw [p0, p1, p2, p3, hz, ha, k11, k2_pay2_eq]
    exact middle_conv e s d m h b
  have hm : k2_pay3 (first (V5 mem ρ c main_v53_3)) (V5 mem ρ c main_v53_1) (V5 mem ρ c main_v53_2) (V5 mem ρ c main_v101) (V5 mem ρ c main_v53_0) (upper (V5 mem ρ c main_v98)) (lower (V5 mem ρ c main_v98)) (V5 mem ρ c main_arg11) = arr2 fun _ n => mean (activate (attend (graph e) h s d) b) n := by
    rw [p0, p1, p2, p3, hz, ha, k11, k2_pay3_eq]
    exact middle_mean e s d m h b
  have h5 : k2_pay5 (F := Ideal) (arr2 (activate (attend (graph e) h s d) b)) (arr2 fun _ n => mean (activate (attend (graph e) h s d) b) n) (arr1 g) (arr1 be) (arr2 w) (arr1 a) = arr2 (col (score (prod (normalise (activate (attend (graph e) h s d) b) g be) w) a)) := by
    rw [k2_pay5_eq]
    exact pay5_real (activate (attend (graph e) h s d) b) g be w a
  have h6 : k2_pay6 (F := Ideal) (arr2 (activate (attend (graph e) h s d) b)) (arr2 fun _ n => mean (activate (attend (graph e) h s d) b) n) (arr1 g) (arr1 be) (arr2 w) (arr1 a') = arr2 (col (score (prod (normalise (activate (attend (graph e) h s d) b) g be) w) a')) := by
    rw [k2_pay6_eq]
    exact pay6_real (activate (attend (graph e) h s d) b) g be w a'
  refine ⟨?_, ?_, ?_, ?_, ?_, ?_⟩
  · refine (W6_arr mem ρ c 12).trans ((val2_12 (V5 mem ρ) c).trans ?_)
    rw [hy, hm, k12, k13, k14, k2_pay4_eq]
    exact pay4_real (activate (attend (graph e) h s d) b) g be w
  · refine (W6_arr mem ρ c 13).trans ((val2_13 (V5 mem ρ) c).trans ?_)
    rw [hy, hm, k12, k13, k14, k15]
    exact h5
  · refine (W6_arr mem ρ c 14).trans ((val2_14 (V5 mem ρ) c).trans ?_)
    rw [hy, hm, k12, k13, k14, k16]
    exact h6
  · obtain ⟨m', hm'⟩ := shift_real (col (score (prod (normalise (activate (attend (graph e) h s d) b) g be) w) a)) (col (score (prod (normalise (activate (attend (graph e) h s d) b) g be) w) a'))
    refine ⟨m', (W6_arr mem ρ c 15).trans ((val2_15 (V5 mem ρ) c).trans ?_)⟩
    rw [hy, hm, k12, k13, k14, k15, k16, h5, h6, k2_pay1_eq]
    exact hm'
  · exact (W6_of mem ρ c main_v1 (by decide)).trans ((W5_of mem ρ c main_v1 (by decide)).trans hs)
  · exact (W6_of mem ρ c main_v3 (by decide)).trans ((W5_of mem ρ c main_v3 (by decide)).trans hd)

/-- After region 3: the next layer's rows, scores, shift and the edges' ends. -/
theorem fourth {h : Fin 10000 → Fin 128 → ℝ} {s d : Fin 10000 → ℝ} {m : ℝ} {b g be a a' : Fin 128 → ℝ}
    {w : Fin 128 → Fin 128 → ℝ}
    (h0 : V6 mem ρ c main_v102_0 = arr2 h) (h1 : V6 mem ρ c main_v102_1 = arr2 (col s)) (h2 : V6 mem ρ c main_v102_2 = arr2 (col d))
    (h3 : V6 mem ρ c main_v102_3 = arr2 fun _ _ => m) (hs : V6 mem ρ c main_v1 = srcs e) (hd : V6 mem ρ c main_v3 = dsts e)
    (q17 : mem ((c : Thread nD τ).loc main_arg17) = arr1 b) (q18 : mem ((c : Thread nD τ).loc main_arg18) = arr1 g)
    (q19 : mem ((c : Thread nD τ).loc main_arg19) = arr1 be) (q20 : mem ((c : Thread nD τ).loc main_arg20) = arr2 w)
    (q21 : mem ((c : Thread nD τ).loc main_arg21) = arr1 a) (q22 : mem ((c : Thread nD τ).loc main_arg22) = arr1 a') :
    V8 mem ρ c main_v151_0 = arr2 (prod (normalise (activate (attend (graph e) h s d) b) g be) w)
      ∧ V8 mem ρ c main_v151_1 = arr2 (col (score (prod (normalise (activate (attend (graph e) h s d) b) g be) w) a))
      ∧ V8 mem ρ c main_v151_2 = arr2 (col (score (prod (normalise (activate (attend (graph e) h s d) b) g be) w) a'))
      ∧ (∃ m : ℝ, V8 mem ρ c main_v151_3 = arr2 fun _ _ => m)
      ∧ V8 mem ρ c main_v1 = srcs e ∧ V8 mem ρ c main_v3 = dsts e := by
  have k17 : V7 mem ρ c main_arg17 = arr1 b := (W7_args mem ρ c main_arg17 (by decide)).trans q17
  have k18 : V7 mem ρ c main_arg18 = arr1 g := (W7_args mem ρ c main_arg18 (by decide)).trans q18
  have k19 : V7 mem ρ c main_arg19 = arr1 be := (W7_args mem ρ c main_arg19 (by decide)).trans q19
  have k20 : V7 mem ρ c main_arg20 = arr2 w := (W7_args mem ρ c main_arg20 (by decide)).trans q20
  have k21 : V7 mem ρ c main_arg21 = arr1 a := (W7_args mem ρ c main_arg21 (by decide)).trans q21
  have k22 : V7 mem ρ c main_arg22 = arr1 a' := (W7_args mem ρ c main_arg22 (by decide)).trans q22
  have p0 : V7 mem ρ c main_v102_0 = arr2 h := (W7_of mem ρ c main_v102_0 (by decide)).trans h0
  have p1 : V7 mem ρ c main_v102_1 = arr2 (col s) := (W7_of mem ρ c main_v102_1 (by decide)).trans h1
  have p2 : V7 mem ρ c main_v102_2 = arr2 (col d) := (W7_of mem ρ c main_v102_2 (by decide)).trans h2
  have p3 : V7 mem ρ c main_v102_3 = arr2 fun _ _ => m := (W7_of mem ρ c main_v102_3 (by decide)).trans h3
  have ha : V7 mem ρ c main_v147 = stacked (rows (arr2 h) (weights e s d m) (srcs e) (dsts e)) := by
    refine (acc3 (W6 mem ρ c)).trans ?_
    change stacked (rows (V6 mem ρ c main_v102_0) (weight (V6 mem ρ c main_v102_1) (V6 mem ρ c main_v102_2) (V6 mem ρ c main_v102_3) (V6 mem ρ c main_v1) (V6 mem ρ c main_v3)) (V6 mem ρ c main_v1) (V6 mem ρ c main_v3)) = _
    rw [h0, h1, h2, h3, hs, hd]
    rfl
  have hz : V7 mem ρ c main_v150 = padded (sums (weights e s d m) (dsts e)) := by
    refine (tot3 (W6 mem ρ c)).trans ?_
    change padded (sums (weight (V6 mem ρ c main_v102_1) (V6 mem ρ c main_v102_2) (V6 mem ρ c main_v102_3) (V6 mem ρ c main_v1) (V6 mem ρ c main_v3)) (V6 mem ρ c main_v3)) = _
    rw [h1, h2, h3, hs, hd]
    rfl
  have hy : k3_pay2 (first (V7 mem ρ c main_v102_3)) (V7 mem ρ c main_v102_1) (V7 mem ρ c main_v102_2) (V7 mem ρ c main_v150) (V7 mem ρ c main_v102_0) (upper (V7 mem ρ c main_v147)) (lower (V7 mem ρ c main_v147)) (V7 mem ρ c main_arg17) = arr2 (activate (attend (graph e) h s d) b) := by
    rw [p0, p1, p2, p3, hz, ha, k17, k3_pay2_eq]
    exact middle_conv e s d m h b
  have hm : k3_pay3 (first (V7 mem ρ c main_v102_3)) (V7 mem ρ c main_v102_1) (V7 mem ρ c main_v102_2) (V7 mem ρ c main_v150) (V7 mem ρ c main_v102_0) (upper (V7 mem ρ c main_v147)) (lower (V7 mem ρ c main_v147)) (V7 mem ρ c main_arg17) = arr2 fun _ n => mean (activate (attend (graph e) h s d) b) n := by
    rw [p0, p1, p2, p3, hz, ha, k17, k3_pay3_eq]
    exact middle_mean e s d m h b
  have h5 : k3_pay5 (F := Ideal) (arr2 (activate (attend (graph e) h s d) b)) (arr2 fun _ n => mean (activate (attend (graph e) h s d) b) n) (arr1 g) (arr1 be) (arr2 w) (arr1 a) = arr2 (col (score (prod (normalise (activate (attend (graph e) h s d) b) g be) w) a)) := by
    rw [k3_pay5_eq]
    exact pay5_real (activate (attend (graph e) h s d) b) g be w a
  have h6 : k3_pay6 (F := Ideal) (arr2 (activate (attend (graph e) h s d) b)) (arr2 fun _ n => mean (activate (attend (graph e) h s d) b) n) (arr1 g) (arr1 be) (arr2 w) (arr1 a') = arr2 (col (score (prod (normalise (activate (attend (graph e) h s d) b) g be) w) a')) := by
    rw [k3_pay6_eq]
    exact pay6_real (activate (attend (graph e) h s d) b) g be w a'
  refine ⟨?_, ?_, ?_, ?_, ?_, ?_⟩
  · refine (W8_arr mem ρ c 12).trans ((val3_12 (V7 mem ρ) c).trans ?_)
    rw [hy, hm, k18, k19, k20, k3_pay4_eq]
    exact pay4_real (activate (attend (graph e) h s d) b) g be w
  · refine (W8_arr mem ρ c 13).trans ((val3_13 (V7 mem ρ) c).trans ?_)
    rw [hy, hm, k18, k19, k20, k21]
    exact h5
  · refine (W8_arr mem ρ c 14).trans ((val3_14 (V7 mem ρ) c).trans ?_)
    rw [hy, hm, k18, k19, k20, k22]
    exact h6
  · obtain ⟨m', hm'⟩ := shift_real (col (score (prod (normalise (activate (attend (graph e) h s d) b) g be) w) a)) (col (score (prod (normalise (activate (attend (graph e) h s d) b) g be) w) a'))
    refine ⟨m', (W8_arr mem ρ c 15).trans ((val3_15 (V7 mem ρ) c).trans ?_)⟩
    rw [hy, hm, k18, k19, k20, k21, k22, h5, h6, k3_pay1_eq]
    exact hm'
  · exact (W8_of mem ρ c main_v1 (by decide)).trans ((W7_of mem ρ c main_v1 (by decide)).trans hs)
  · exact (W8_of mem ρ c main_v3 (by decide)).trans ((W7_of mem ρ c main_v3 (by decide)).trans hd)

/-- After the last region: the result. -/
theorem finish {h : Fin 10000 → Fin 128 → ℝ} {s d : Fin 10000 → ℝ} {m : ℝ} {b g be b₁ b₂ : Fin 128 → ℝ}
    {w w' : Fin 128 → Fin 128 → ℝ} {w'' : Fin 128 → Fin 40 → ℝ} {b₃ : Fin 40 → ℝ}
    (h0 : V8 mem ρ c main_v151_0 = arr2 h) (h1 : V8 mem ρ c main_v151_1 = arr2 (col s)) (h2 : V8 mem ρ c main_v151_2 = arr2 (col d))
    (h3 : V8 mem ρ c main_v151_3 = arr2 fun _ _ => m) (hs : V8 mem ρ c main_v1 = srcs e) (hd : V8 mem ρ c main_v3 = dsts e)
    (q23 : mem ((c : Thread nD τ).loc main_arg23) = arr1 b) (q24 : mem ((c : Thread nD τ).loc main_arg24) = arr1 g)
    (q25 : mem ((c : Thread nD τ).loc main_arg25) = arr1 be) (q26 : mem ((c : Thread nD τ).loc main_arg26) = arr2 w)
    (q27 : mem ((c : Thread nD τ).loc main_arg27) = arr1 b₁) (q28 : mem ((c : Thread nD τ).loc main_arg28) = arr2 w')
    (q29 : mem ((c : Thread nD τ).loc main_arg29) = arr1 b₂) (q30 : mem ((c : Thread nD τ).loc main_arg30) = arr2 w'')
    (q31 : mem ((c : Thread nD τ).loc main_arg31) = arr1 b₃) :
    V10 mem ρ c main_v200 = arr2 (logSoft (logits (normalise (activate (attend (graph e) h s d) b) g be) w b₁ w' b₂ w'' b₃)) := by
  have k23 : V9 mem ρ c main_arg23 = arr1 b := (W9_args mem ρ c main_arg23 (by decide)).trans q23
  have k24 : V9 mem ρ c main_arg24 = arr1 g := (W9_args mem ρ c main_arg24 (by decide)).trans q24
  have k25 : V9 mem ρ c main_arg25 = arr1 be := (W9_args mem ρ c main_arg25 (by decide)).trans q25
  have k26 : V9 mem ρ c main_arg26 = arr2 w := (W9_args mem ρ c main_arg26 (by decide)).trans q26
  have k27 : V9 mem ρ c main_arg27 = arr1 b₁ := (W9_args mem ρ c main_arg27 (by decide)).trans q27
  have k28 : V9 mem ρ c main_arg28 = arr2 w' := (W9_args mem ρ c main_arg28 (by decide)).trans q28
  have k29 : V9 mem ρ c main_arg29 = arr1 b₂ := (W9_args mem ρ c main_arg29 (by decide)).trans q29
  have k30 : V9 mem ρ c main_arg30 = arr2 w'' := (W9_args mem ρ c main_arg30 (by decide)).trans q30
  have k31 : V9 mem ρ c main_arg31 = arr1 b₃ := (W9_args mem ρ c main_arg31 (by decide)).trans q31
  have p0 : V9 mem ρ c main_v151_0 = arr2 h := (W9_of mem ρ c main_v151_0 (by decide)).trans h0
  have p1 : V9 mem ρ c main_v151_1 = arr2 (col s) := (W9_of mem ρ c main_v151_1 (by decide)).trans h1
  have p2 : V9 mem ρ c main_v151_2 = arr2 (col d) := (W9_of mem ρ c main_v151_2 (by decide)).trans h2
  have p3 : V9 mem ρ c main_v151_3 = arr2 fun _ _ => m := (W9_of mem ρ c main_v151_3 (by decide)).trans h3
  have ha : V9 mem ρ c main_v196 = stacked (rows (arr2 h) (weights e s d m) (srcs e) (dsts e)) := by
    refine (acc4 (W8 mem ρ c)).trans ?_
    change stacked (rows (V8 mem ρ c main_v151_0) (weight (V8 mem ρ c main_v151_1) (V8 mem ρ c main_v151_2) (V8 mem ρ c main_v151_3) (V8 mem ρ c main_v1) (V8 mem ρ c main_v3)) (V8 mem ρ c main_v1) (V8 mem ρ c main_v3)) = _
    rw [h0, h1, h2, h3, hs, hd]
    rfl
  have hz : V9 mem ρ c main_v199 = padded (sums (weights e s d m) (dsts e)) := by
    refine (tot4 (W8 mem ρ c)).trans ?_
    change padded (sums (weight (V8 mem ρ c main_v151_1) (V8 mem ρ c main_v151_2) (V8 mem ρ c main_v151_3) (V8 mem ρ c main_v1) (V8 mem ρ c main_v3)) (V8 mem ρ c main_v3)) = _
    rw [h1, h2, h3, hs, hd]
    rfl
  have hy : k4_pay2 (first (V9 mem ρ c main_v151_3)) (V9 mem ρ c main_v151_1) (V9 mem ρ c main_v151_2) (V9 mem ρ c main_v199) (V9 mem ρ c main_v151_0) (upper (V9 mem ρ c main_v196)) (lower (V9 mem ρ c main_v196)) (V9 mem ρ c main_arg23) = arr2 (activate (attend (graph e) h s d) b) := by
    rw [p0, p1, p2, p3, hz, ha, k23, k4_pay2_eq]
    exact middle_conv e s d m h b
  have hm : k4_pay3 (first (V9 mem ρ c main_v151_3)) (V9 mem ρ c main_v151_1) (V9 mem ρ c main_v151_2) (V9 mem ρ c main_v199) (V9 mem ρ c main_v151_0) (upper (V9 mem ρ c main_v196)) (lower (V9 mem ρ c main_v196)) (V9 mem ρ c main_arg23) = arr2 fun _ n => mean (activate (attend (graph e) h s d) b) n := by
    rw [p0, p1, p2, p3, hz, ha, k23, k4_pay3_eq]
    exact middle_mean e s d m h b
  refine (W10_arr mem ρ c 15).trans ((val4_15 (V9 mem ρ) c).trans ?_)
  rw [hy, hm, k24, k25, k26, k27, k28, k29, k30, k31, k4_logits]
  exact k4_soft _

end Cert.Proof.Stage

end
-- ==== Proof.Shift.lean ====
/-
  The reference's four layers are one function: each later layer is the first one applied to the layer before it.
-/
module

public import proofs.«01_k».proof.Proof.Gen.ReferenceIdeal
public import proofs.«01_k».proof.Proof.Gen.ReferenceIdeal.Read

@[expose] public section

noncomputable section

namespace Cert.Proof

open Idealize.ShloMosaic Cert.ReferenceIdeal Cert.ReferenceIdeal.Read

variable {F : FTy → Type} [FloatOps F]

set_option maxRecDepth 100000

/-- The output of layer 2 is the first layer's function of the output of layer 1 and the parameters of layer 2. -/
theorem layer2_eq (x0 : (⟨S10000x128, .f32⟩ : BufTy).Contents (Elt F)) (x1 : (⟨S2x320000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) :
    val_main_v189 (F := F) x0 x1 x2 x3 x4 x5 x6 x7 x8 x9 x10 x11 x12 x13
      = val_main_v96 (F := F) (val_main_v96 (F := F) x0 x1 x2 x3 x4 x5 x6 x7) x1 x8 x9 x10 x11 x12 x13 := rfl

/-- The output of layer 3 is the first layer's function of the output of layer 2 and the parameters of layer 3. -/
theorem layer3_eq (x0 : (⟨S10000x128, .f32⟩ : BufTy).Contents (Elt F)) (x1 : (⟨S2x320000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) :
    val_main_v282 (F := F) x0 x1 x2 x3 x4 x5 x6 x7 x8 x9 x10 x11 x12 x13 x14 x15 x16 x17 x18 x19
      = val_main_v96 (F := F) (val_main_v189 (F := F) x0 x1 x2 x3 x4 x5 x6 x7 x8 x9 x10 x11 x12 x13) x1 x14 x15 x16 x17 x18 x19 := rfl

/-- The output of layer 4 is the first layer's function of the output of layer 3 and the parameters of layer 4. -/
theorem layer4_eq (x0 : (⟨S10000x128, .f32⟩ : BufTy).Contents (Elt F)) (x1 : (⟨S2x320000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128x128, .f32⟩ : BufTy).Contents (Elt F)) (x21 : (⟨S128, .f32⟩ : BufTy).Contents (Elt F)) (x22 : (⟨S128, .f32⟩ : BufTy).Contents (Elt F)) (x23 : (⟨S128, .f32⟩ : BufTy).Contents (Elt F)) (x24 : (⟨S128, .f32⟩ : BufTy).Contents (Elt F)) (x25 : (⟨S128, .f32⟩ : BufTy).Contents (Elt F)) :
    val_main_v375 (F := F) x0 x1 x2 x3 x4 x5 x6 x7 x8 x9 x10 x11 x12 x13 x14 x15 x16 x17 x18 x19 x20 x21 x22 x23 x24 x25
      = val_main_v96 (F := F) (val_main_v282 (F := F) x0 x1 x2 x3 x4 x5 x6 x7 x8 x9 x10 x11 x12 x13 x14 x15 x16 x17 x18 x19) x1 x20 x21 x22 x23 x24 x25 := rfl

end Cert.Proof

end
-- ==== Proof.RefLayer.lean ====
/-
  The reference's layer among the reals: of real features and parameters it is the graph-attention layer.
-/
module

public import proofs.«01_k».proof.Proof.Gen.ReferenceIdeal
public import proofs.«01_k».proof.Proof.Gen.ReferenceIdeal.Read
public import proofs.«01_k».proof.Proof.Graph

@[expose] public section

noncomputable section

namespace Cert.Proof

open Idealize.ShloMosaic Idealize.ShloMosaic.ValueIdx Cert.ReferenceIdeal Cert.ReferenceIdeal.Gen Cert.ReferenceIdeal.Read

/-! ## The edge list with its loops -/

section Loops

variable (e : (⟨S2x320000, .i32⟩ : BufTy).Contents (Elt Ideal))

/-- The reference's first ends. -/
theorem v1_ix (k : Fin 320000) : val_main_v1 (F := Ideal) e (ix1 k) = e (ix2 0 k) := by
  rw [val_main_v1_apply, val_main_v0_apply]
  congr 1
  refine (eq_ix2 _).trans ?_
  congr 1
  refine Fin.ext ?_
  have := k.isLt
  simp [idx_main_v0, idx_main_v1]
  try omega

/-- The reference's second ends. -/
theorem v3_ix (k : Fin 320000) : val_main_v3 (F := Ideal) e (ix1 k) = e (ix2 1 k) := by
  rw [val_main_v3_apply, val_main_v2_apply]
  congr 1
  refine (eq_ix2 _).trans ?_
  congr 1
  refine Fin.ext ?_
  have := k.isLt
  simp [idx_main_v2, idx_main_v3]
  try omega

/-- In the long list an edge keeps its first end. -/
theorem v6_edge (k : Fin 320000) : val_main_v6 (F := Ideal) e (ix1 ⟨k.val, by omega⟩) = e (ix2 0 k) := by
  unfold val_main_v6
  rw [← v1_ix e k]
  exact concatenate_pair_apply_left 0 _ _ concatenates_S320000_S10000_S330000_d0 _ rfl (ix1 k) (fun b => match b with | ⟨0, _⟩ => rfl)

/-- In the long list an edge keeps its second end. -/
theorem v7_edge (k : Fin 320000) : val_main_v7 (F := Ideal) e (ix1 ⟨k.val, by omega⟩) = e (ix2 1 k) := by
  unfold val_main_v7
  rw [← v3_ix e k]
  exact concatenate_pair_apply_left 0 _ _ concatenates_S320000_S10000_S330000_d0 _ rfl (ix1 k) (fun b => match b with | ⟨0, _⟩ => rfl)

/-- In the long list a loop starts at its node. -/
theorem v6_loop (n : Fin 10000) : val_main_v6 (F := Ideal) e (ix1 ⟨320000 + n.val, by omega⟩) = BitVec.ofNat 32 n.val := by
  unfold val_main_v6
  exact concatenate_pair_apply_right 0 _ _ concatenates_S320000_S10000_S330000_d0 _ rfl rfl (ix1 n)
    (fun b hb => absurd (Subsingleton.elim _ _) hb) (Nat.add_comm _ _)

/-- In the long list a loop ends at its node. -/
theorem v7_loop (n : Fin 10000) : val_main_v7 (F := Ideal) e (ix1 ⟨320000 + n.val, by omega⟩) = BitVec.ofNat 32 n.val := by
  unfold val_main_v7
  exact concatenate_pair_apply_right 0 _ _ concatenates_S320000_S10000_S330000_d0 _ rfl rfl (ix1 n)
    (fun b hb => absurd (Subsingleton.elim _ _) hb) (Nat.add_comm _ _)

/-- The edge list with a loop at each node appended, as the reference builds it. -/
def looped : Edges 330000 10000 where
  src k := node (val_main_v6 (F := Ideal) e (ix1 k))
  dst k := (val_main_v7 (F := Ideal) e (ix1 k)).toInt

/-- The node an edge arrives at, as the reference reads it. -/
def arrival (k : Fin 330000) : Fin 10000 := node (val_main_v7 (F := Ideal) e (ix1 k))

/-- The long list is the edges with a loop for each node. -/
theorem looped_loops : Loops (graph e) (looped e) (rfl : 330000 = 320000 + 10000) where
  src_edge k := congrArg node (v6_edge e k)
  dst_edge k := congrArg BitVec.toInt (v7_edge e k)
  src_loop n := (congrArg node (v6_loop e n)).trans (node_of_toInt (toInt_ofNat_node n))
  dst_loop n := (congrArg BitVec.toInt (v7_loop e n)).trans (toInt_ofNat_node n)

/-- An edge that enters a node reads that node's row. -/
theorem arrival_eq (k : Fin 330000) (n : Fin 10000) (h : (looped e).dst k = (n.val : Int)) : arrival e k = n :=
  node_of_toInt h

/-- The numbers read for the first ends' scores. -/
theorem v21_ix (k : Fin 330000) : val_main_v21 (F := Ideal) e (ix2 k 0) = wrap (val_main_v6 (F := Ideal) e (ix1 k)) := by
  rw [val_main_v21_apply, show idx_main_v21 (ix2 k 0) = ix1 k from eq_ix1 _, val_main_v20_apply, val_main_v17_apply, val_main_v19_apply,
    val_main_v16_apply, val_main_v18_apply]
  rfl

/-- The numbers read for the first ends' rows. -/
theorem v66_ix (k : Fin 330000) : val_main_v66 (F := Ideal) e (ix2 k 0) = wrap (val_main_v6 (F := Ideal) e (ix1 k)) := by
  rw [val_main_v66_apply, show idx_main_v66 (ix2 k 0) = ix1 k from eq_ix1 _, val_main_v65_apply, val_main_v62_apply, val_main_v64_apply,
    val_main_v61_apply, val_main_v63_apply]
  rfl

/-- The numbers read for the second ends' scores. -/
theorem v28_ix (k : Fin 330000) : val_main_v28 (F := Ideal) e (ix2 k 0) = wrap (val_main_v7 (F := Ideal) e (ix1 k)) := by
  rw [val_main_v28_apply, show idx_main_v28 (ix2 k 0) = ix1 k from eq_ix1 _, val_main_v27_apply, val_main_v24_apply, val_main_v26_apply,
    val_main_v23_apply, val_main_v25_apply]
  rfl

/-- The numbers read for the maxima. -/
theorem v46_ix (k : Fin 330000) : val_main_v46 (F := Ideal) e (ix2 k 0) = wrap (val_main_v7 (F := Ideal) e (ix1 k)) := by
  rw [val_main_v46_apply, show idx_main_v46 (ix2 k 0) = ix1 k from eq_ix1 _, val_main_v45_apply, val_main_v42_apply, val_main_v44_apply,
    val_main_v41_apply, val_main_v43_apply]
  rfl

/-- The numbers read for the sums of weights. -/
theorem v58_ix (k : Fin 330000) : val_main_v58 (F := Ideal) e (ix2 k 0) = wrap (val_main_v7 (F := Ideal) e (ix1 k)) := by
  rw [val_main_v58_apply, show idx_main_v58 (ix2 k 0) = ix1 k from eq_ix1 _, val_main_v57_apply, val_main_v54_apply, val_main_v56_apply,
    val_main_v53_apply, val_main_v55_apply]
  rfl

/-- The places where weights are added. -/
theorem v51_ix (k : Fin 330000) : val_main_v51 (F := Ideal) e (ix2 k 0) = val_main_v7 (F := Ideal) e (ix1 k) := by
  rw [val_main_v51_apply, show idx_main_v51 (ix2 k 0) = ix1 k from eq_ix1 _]

/-- The places where rows are added. -/
theorem v72_ix (k : Fin 330000) : val_main_v72 (F := Ideal) e (ix2 k 0) = val_main_v7 (F := Ideal) e (ix1 k) := by
  rw [val_main_v72_apply, show idx_main_v72 (ix2 k 0) = ix1 k from eq_ix1 _]

/-- The mask of the edges that enter a node. -/
theorem v37_ix (n : Fin 10000) (k : Fin 330000) : val_main_v37 (F := Ideal) e (ix2 n k)
    = IntOp.cmpi .eq (val_main_v7 (F := Ideal) e (ix1 k)) (BitVec.ofNat 32 n.val) := by
  rw [val_main_v37_apply, val_main_v35_apply, val_main_v36_apply, val_main_v32_apply, val_main_v34_apply, val_main_v33_apply,
    show idx_main_v32 (idx_main_v35 (ix2 n k)) = ix1 k from eq_ix1 _]

end Loops

/-! ## The attention coefficients -/

section Layer

variable (X : Fin 10000 → Fin 128 → ℝ) (e : (⟨S2x320000, .i32⟩ : BufTy).Contents (Elt Ideal)) (W : Fin 128 → Fin 128 → ℝ)
  (a a' b g be : Fin 128 → ℝ)

/-- The reference's product. -/
theorem v4_real : val_main_v4 (F := Ideal) (arr2 X) (arr2 W) = arr2 (prod X W) := by
  refine eq_arr2 fun n c => ?_
  rw [val_main_v4_apply]
  unfold prod
  rw [coe_sum_real]
  refine Finset.sum_congr rfl fun k _ => ?_
  rw [EReal.coe_mul]
  rfl

/-- The reference's scores as first ends. -/
theorem v11_real : val_main_v11 (F := Ideal) (arr2 X) (arr2 W) (arr1 a) = arr1 (score (prod X W) a) := by
  refine eq_arr1 fun n => ?_
  rw [val_main_v11_apply, val_main_cst_apply, Ideal.ofBits_def, Ideal.ofBits_zero_f32, zero_add]
  unfold score
  rw [coe_sum_real]
  refine Finset.sum_congr rfl fun k _ => ?_
  rw [val_main_v10_apply, v4_real, val_main_v9_apply, val_main_v8_apply, EReal.coe_mul]
  rfl

/-- The reference's scores as second ends. -/
theorem v15_real : val_main_v15 (F := Ideal) (arr2 X) (arr2 W) (arr1 a) = arr1 (score (prod X W) a) := by
  refine eq_arr1 fun n => ?_
  rw [val_main_v15_apply, val_main_cst_0_apply, Ideal.ofBits_def, Ideal.ofBits_zero_f32, zero_add]
  unfold score
  rw [coe_sum_real]
  refine Finset.sum_congr rfl fun k _ => ?_
  rw [val_main_v14_apply, v4_real, val_main_v13_apply, val_main_v12_apply, EReal.coe_mul]
  rfl

/-- The exponent of an edge before any shift. -/
def expo (k : Fin 330000) : ℝ :=
  leak (score (prod X W) a ((looped e).src k) + score (prod X W) a' (arrival e k))

/-- The reference's scores of the edges after the leaky rectifier. -/
theorem v31_real : val_main_v31 (F := Ideal) (arr2 X) e (arr2 W) (arr1 a) (arr1 a') = arr1 (expo X e W a a') := by
  refine eq_arr1 fun k => ?_
  have h22 : val_main_v22 (F := Ideal) (arr2 X) e (arr2 W) (arr1 a) (ix1 k)
      = ((score (prod X W) a ((looped e).src k) : ℝ) : EReal) := by
    unfold val_main_v22
    rw [v11_real]
    refine (gatherVec_apply (N := 10000) (R := 330000) (by decide) _ _ _ k).trans ?_
    rw [v21_ix]
    rfl
  have h29 : val_main_v29 (F := Ideal) (arr2 X) e (arr2 W) (arr1 a') (ix1 k)
      = ((score (prod X W) a' (arrival e k) : ℝ) : EReal) := by
    unfold val_main_v29
    rw [v15_real]
    refine (gatherVec_apply (N := 10000) (R := 330000) (by decide) _ _ _ k).trans ?_
    rw [v28_ix]
    rfl
  have h30 : val_main_v30 (F := Ideal) (arr2 X) e (arr2 W) (arr1 a) (arr1 a') (ix1 k)
      = ((score (prod X W) a ((looped e).src k) + score (prod X W) a' (arrival e k) : ℝ) : EReal) := by
    rw [val_main_v30_apply, h22, h29, EReal.coe_add]
    rfl
  rw [val_main_v31_apply, val_main_call0_v1_apply, val_main_call0_v4_apply, val_main_call0_v0_apply, val_main_call0_v3_apply,
    val_main_call0_v2_apply, val_main_cst_4_apply, val_main_call0_cst_apply, h30, Ideal.ofBits_def, Ideal.ofBits_def,
    Ideal.ofBits_zero_f32, lit_slope]
  exact select_leak _

/-- A node's maximum is a real: its own loop enters it. -/
theorem v40_exists (n : Fin 10000) : ∃ r : ℝ,
    val_main_v40 (F := Ideal) (arr2 X) e (arr2 W) (arr1 a) (arr1 a') (ix1 n) = (r : EReal) := by
  have h39 : ∀ i k, val_main_v39 (F := Ideal) (arr2 X) e (arr2 W) (arr1 a) (arr1 a') (ix2 i k)
      = Scalar.select (IntOp.cmpi .eq (val_main_v7 (F := Ideal) e (ix1 k)) (BitVec.ofNat 32 i.val)) ((expo X e W a a' k : ℝ) : EReal) ⊥ := by
    intro i k
    rw [val_main_v39_apply, v37_ix, val_main_call1_v1_apply, val_main_v38_apply, v31_real, val_main_call1_v2_apply,
      val_main_call1_v0_apply, val_main_cst_5_apply, Ideal.ofBits_def, lit_bot]
    rfl
  unfold val_main_v40
  refine hostReduceMax_real _ _ reducesTo_S10000x330000_S10000_d1 h_S_ ?_ (ix1 n) ?_ (ix2 n ⟨320000 + n.val, by omega⟩) ?_ ?_
  · exact lit_bot
  · intro i _
    refine ne_of_eq_of_ne ((congrArg _ (eq_ix2 i)).trans (h39 (i 0) (i 1))) ?_
    rcases BitVec.eq_zero_or_eq_one (IntOp.cmpi .eq (val_main_v7 (F := Ideal) e (ix1 (i 1))) (BitVec.ofNat 32 (i 0).val)) with h | h
    · rw [h, select_zero]; exact bot_ne_top
    · rw [h, select_one]; exact EReal.coe_ne_top _
  · rw [eq_ix1 (Shape.ReducesTo.drop _ _)]
    congr 1
  · rw [h39, v7_loop]
    have : IntOp.cmpi .eq (BitVec.ofNat 32 n.val) (BitVec.ofNat 32 n.val) = 1#1 := by simp [IntOp.cmpi]
    rw [this, select_one]
    exact EReal.coe_ne_bot _

/-- The largest exponent arriving at a node. -/
def peak (n : Fin 10000) : ℝ := (v40_exists X e W a a' n).choose

/-- The reference's maxima. -/
theorem v40_real : val_main_v40 (F := Ideal) (arr2 X) e (arr2 W) (arr1 a) (arr1 a') = arr1 (peak X e W a a') :=
  eq_arr1 fun n => (v40_exists X e W a a' n).choose_spec

/-- The shifted weight of an edge. -/
def wgt (k : Fin 330000) : ℝ := edgeWeight (looped e) (arrival e) (score (prod X W) a) (score (prod X W) a') (peak X e W a a') k

/-- The sum of the shifted weights at a node. -/
def tot (n : Fin 10000) : ℝ := nodeTotal (looped e) (arrival e) (score (prod X W) a) (score (prod X W) a') (peak X e W a a') n

/-- The reference's weights. -/
theorem v49_real : val_main_v49 (F := Ideal) (arr2 X) e (arr2 W) (arr1 a) (arr1 a') = arr1 (wgt X e W a a') := by
  refine eq_arr1 fun k => ?_
  have h47 : val_main_v47 (F := Ideal) (arr2 X) e (arr2 W) (arr1 a) (arr1 a') (ix1 k)
      = ((peak X e W a a' (arrival e k) : ℝ) : EReal) := by
    unfold val_main_v47
    rw [v40_real]
    refine (gatherVec_apply (N := 10000) (R := 330000) (by decide) _ _ _ k).trans ?_
    rw [v46_ix]
    rfl
  rw [val_main_v49_apply, val_main_v48_apply, v31_real, h47]
  exact Ideal.exp_coe _

/-- The reference's sums of weights. -/
theorem v52_real : val_main_v52 (F := Ideal) (arr2 X) e (arr2 W) (arr1 a) (arr1 a') = arr1 (tot X e W a a') := by
  refine eq_arr1 fun n => ?_
  unfold val_main_v52
  refine (scatterVec_apply (N := 10000) (R := 330000) _ _ _ _ n).trans ?_
  rw [val_main_v50_apply, val_main_cst_9_apply, Ideal.ofBits_def, Ideal.ofBits_zero_f32, zero_add, v49_real]
  unfold tot nodeTotal
  rw [coe_sum_real]
  refine Finset.sum_congr rfl fun k _ => ?_
  rw [v51_ix]
  show (if (looped e).dst k = (n.val : Int) then ((wgt X e W a a' k : ℝ) : EReal) else 0) = _
  split <;> rfl

/-- The reference's weights over their node's sum. -/
theorem v60_real : val_main_v60 (F := Ideal) (arr2 X) e (arr2 W) (arr1 a) (arr1 a')
    = arr1 fun k => wgt X e W a a' k * (1 / tot X e W a a' (arrival e k)) := by
  refine eq_arr1 fun k => ?_
  have h59 : val_main_v59 (F := Ideal) (arr2 X) e (arr2 W) (arr1 a) (arr1 a') (ix1 k)
      = ((tot X e W a a' (arrival e k) : ℝ) : EReal) := by
    unfold val_main_v59
    rw [v52_real]
    refine (gatherVec_apply (N := 10000) (R := 330000) (by decide) _ _ _ k).trans ?_
    rw [v58_ix]
    rfl
  rw [val_main_v60_apply, v49_real, h59]
  refine (Ideal.div_coe (nodeTotal_pos (looped_loops e) _ (arrival_eq e) _ _ _ _).ne' _).trans ?_
  rw [EReal.coe_mul]
  rfl

/-- The reference's attention is the layer's. -/
theorem v73_real : val_main_v73 (F := Ideal) (arr2 X) e (arr2 W) (arr1 a) (arr1 a')
    = arr2 (attend (graph e) (prod X W) (score (prod X W) a) (score (prod X W) a')) := by
  refine eq_arr2 fun n c => ?_
  have h67 : ∀ k, val_main_v67 (F := Ideal) (arr2 X) e (arr2 W) (ix2 k c) = ((prod X W ((looped e).src k) c : ℝ) : EReal) := by
    intro k
    unfold val_main_v67
    rw [v4_real]
    refine (gatherRows_apply (N := 10000) (R := 330000) (C := 128) (by decide) _ _ _ k c).trans ?_
    rw [v66_ix]
    rfl
  unfold val_main_v73
  refine (scatterRows_apply (N := 10000) (R := 330000) (C := 128) _ _ _ _ n c).trans ?_
  rw [val_main_v71_apply, val_main_cst_14_apply, Ideal.ofBits_def, Ideal.ofBits_zero_f32, zero_add,
    ← attend_of_nodes (looped_loops e) (arrival e) (arrival_eq e) (prod X W) _ _ (peak X e W a a') n c, coe_sum_real]
  refine Finset.sum_congr rfl fun k _ => ?_
  rw [v72_ix, val_main_v70_apply, h67, val_main_v69_apply, val_main_v68_apply, v60_real]
  show (if (looped e).dst k = (n.val : Int) then _ else _) = _
  split
  · rw [EReal.coe_mul]; rfl
  · rfl

/-- The reference's attention with its offset, rectified. -/
theorem v77_real : val_main_v77 (F := Ideal) (arr2 X) e (arr2 W) (arr1 a) (arr1 a') (arr1 b) = arr2 (conv (graph e) X W a a' b) := by
  refine eq_arr2 fun n c => ?_
  rw [val_main_v77_apply, val_main_v76_apply, v73_real, val_main_v75_apply, val_main_v74_apply, val_main_call2_v0_apply,
    val_main_call2_cst_apply, Ideal.ofBits_def, Ideal.ofBits_zero_f32]
  unfold conv activate
  rw [coe_max_real, EReal.coe_add]
  rfl

/-! ## The normalisation -/

/-- A quotient by the number of nodes. -/
theorem div_rows (x : ℝ) : Ideal.div (x : EReal) ((10000 : ℝ) : EReal) = ((x * (1 / 10000) : ℝ) : EReal) := by
  rw [Ideal.div_coe (by norm_num), EReal.coe_mul]

/-- The reference's means. -/
theorem v80_real : val_main_v80 (F := Ideal) (arr2 X) e (arr2 W) (arr1 a) (arr1 a') (arr1 b)
    = arr1 (mean (conv (graph e) X W a a' b)) := by
  refine eq_arr1 fun c => ?_
  rw [val_main_v80_apply, val_main_v78_apply, v77_real, val_main_v79_apply, val_main_cst_15_apply, val_main_cst_16_apply,
    Ideal.ofBits_def, Ideal.ofBits_def, Ideal.ofBits_zero_f32, zero_add, lit_rows]
  unfold mean
  rw [← div_rows, coe_sum_real]
  rfl

/-- The divisor of the variance. -/
theorem w8_real (i : S_.Idx) : val_main_call3_v8 (F := Ideal) i = ((10000 : ℝ) : EReal) := by
  rw [val_main_call3_v8_apply, val_main_call3_v7_apply, val_main_call3_cst_1_apply, val_main_c_17_apply, Ideal.ofBits_def, lit_rows]
  show ((10000 : ℝ) : EReal) - (((0#32 : BitVec 32).toInt : ℝ) : EReal) = _
  simp

/-- The variance as the library writes it. -/
theorem w11_real : val_main_call3_v11 (F := Ideal) (arr2 X) e (arr2 W) (arr1 a) (arr1 a') (arr1 b)
    = arr1 (variance (conv (graph e) X W a a' b)) := by
  have h4 : val_main_call3_v4 (F := Ideal) (arr2 X) e (arr2 W) (arr1 a) (arr1 a') (arr1 b)
      = arr2 fun _ c => mean (conv (graph e) X W a a' b) c := by
    refine eq_arr2 fun n c => ?_
    rw [val_main_call3_v4_apply, val_main_call3_v3_apply, val_main_call3_v1_apply, val_main_call3_v0_apply, v77_real,
      val_main_call3_v2_apply, val_main_call3_cst_apply, val_main_call3_cst_0_apply,
      Ideal.ofBits_def, Ideal.ofBits_def, Ideal.ofBits_zero_f32, zero_add, lit_rows]
    unfold mean
    rw [← div_rows, coe_sum_real]
    rfl
  refine eq_arr1 fun c => ?_
  rw [val_main_call3_v11_apply, val_main_call3_v10_apply, w8_real, val_main_call3_v9_apply, val_main_call3_cst_2_apply,
    Ideal.ofBits_def, Ideal.ofBits_zero_f32, zero_add]
  unfold variance
  rw [← div_rows, coe_sum_real]
  refine congrArg (fun z => Ideal.div z ((10000 : ℝ) : EReal)) ?_
  refine Finset.sum_congr rfl fun k _ => ?_
  rw [val_main_call3_v6_apply, val_main_call3_v5_apply, v77_real, h4, EReal.coe_mul, EReal.coe_sub]
  rfl

/-- The reference's variances. -/
theorem v81_real : val_main_v81 (F := Ideal) (arr2 X) e (arr2 W) (arr1 a) (arr1 a') (arr1 b)
    = arr1 (variance (conv (graph e) X W a a' b)) := by
  rw [← w11_real]
  funext i
  unfold val_main_v81
  show Scalar.select (broadcastInDim S128 ![] bcast_S_S128 (val_main_call3_v12 (F := Ideal)) i) _ _ = _
  have h : broadcastInDim S128 ![] bcast_S_S128 (val_main_call3_v12 (F := Ideal)) i = 1#1 := by
    refine (broadcastInDim_apply _ bcast_S_S128 _ i (fun a => a.elim0) (fun a => a.elim0)).trans ?_
    rw [val_main_call3_v12_apply, w8_real, val_main_call3_cst_3_apply, Ideal.ofBits_def, Ideal.ofBits_zero_f32]
    show Ideal.cmp .ogt ((10000 : ℝ) : EReal) 0 = 1#1
    have : (0 : EReal) < ((10000 : ℝ) : EReal) := by exact_mod_cast (by norm_num : (0 : ℝ) < 10000)
    simp only [Ideal.cmp, decide_eq_true this]
    rfl
  rw [h, select_one]

/-- The reciprocal root of the variance and the small constant. -/
theorem rsqrt_small {v : ℝ} (hv : 0 ≤ v) : Ideal.rsqrt ((v : EReal) + (small : EReal)) = (((Real.sqrt (v + small))⁻¹ : ℝ) : EReal) := by
  have h : 0 < v + small := by linarith [small_pos]
  rw [← EReal.coe_add, Ideal.rsqrt_coe, if_neg (not_lt.mpr h.le), if_neg h.ne']

/-- The reference's first layer at arrays of reals. -/
theorem v96_real : val_main_v96 (F := Ideal) (arr2 X) e (arr2 W) (arr1 a) (arr1 a') (arr1 b) (arr1 g) (arr1 be)
    = arr2 (layer (graph e) X W a a' b g be) := by
  refine eq_arr2 fun n c => ?_
  rw [val_main_v96_apply, val_main_v95_apply, val_main_v94_apply, val_main_v93_apply, val_main_v92_apply, val_main_v91_apply,
    val_main_v90_apply, val_main_v89_apply, val_main_v88_apply, val_main_v87_apply, val_main_v86_apply, v81_real,
    val_main_v85_apply, val_main_cst_18_apply, val_main_v84_apply, val_main_v83_apply, val_main_v82_apply, v77_real, v80_real,
    Ideal.ofBits_def, lit_small]
  unfold layer normalise
  rw [EReal.coe_add, EReal.coe_mul, EReal.coe_mul, EReal.coe_sub, ← rsqrt_small (variance_nonneg _ _)]
  rfl

end Layer

end Cert.Proof

end
-- ==== Proof.RefTail.lean ====
/-
  The reference's last part among the reals: three linear maps and the logarithms of the normalised exponentials.
-/
module

public import proofs.«01_k».proof.Proof.Gen.ReferenceIdeal
public import proofs.«01_k».proof.Proof.Gen.ReferenceIdeal.Read
public import proofs.«01_k».proof.Proof.Graph

@[expose] public section

noncomputable section

namespace Cert.Proof

open Idealize.ShloMosaic Idealize.ShloMosaic.ValueIdx Cert.ReferenceIdeal Cert.ReferenceIdeal.Gen Cert.ReferenceIdeal.Read

variable
  (x0 : (⟨S10000x128, .f32⟩ : BufTy).Contents (Elt Ideal))
  (x1 : (⟨S2x320000, .i32⟩ : BufTy).Contents (Elt Ideal))
  (x2 : (⟨S128x128, .f32⟩ : BufTy).Contents (Elt Ideal))
  (x3 : (⟨S128, .f32⟩ : BufTy).Contents (Elt Ideal))
  (x4 : (⟨S128, .f32⟩ : BufTy).Contents (Elt Ideal))
  (x5 : (⟨S128, .f32⟩ : BufTy).Contents (Elt Ideal))
  (x6 : (⟨S128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128, .f32⟩ : BufTy).Contents (Elt Ideal))
  (x11 : (⟨S128, .f32⟩ : BufTy).Contents (Elt Ideal))
  (x12 : (⟨S128, .f32⟩ : BufTy).Contents (Elt Ideal))
  (x13 : (⟨S128, .f32⟩ : BufTy).Contents (Elt Ideal))
  (x14 : (⟨S128x128, .f32⟩ : BufTy).Contents (Elt Ideal))
  (x15 : (⟨S128, .f32⟩ : BufTy).Contents (Elt Ideal))
  (x16 : (⟨S128, .f32⟩ : BufTy).Contents (Elt Ideal))
  (x17 : (⟨S128, .f32⟩ : BufTy).Contents (Elt Ideal))
  (x18 : (⟨S128, .f32⟩ : BufTy).Contents (Elt Ideal))
  (x19 : (⟨S128, .f32⟩ : BufTy).Contents (Elt Ideal))
  (x20 : (⟨S128x128, .f32⟩ : BufTy).Contents (Elt Ideal))
  (x21 : (⟨S128, .f32⟩ : BufTy).Contents (Elt Ideal))
  (x22 : (⟨S128, .f32⟩ : BufTy).Contents (Elt Ideal))
  (x23 : (⟨S128, .f32⟩ : BufTy).Contents (Elt Ideal))
  (x24 : (⟨S128, .f32⟩ : BufTy).Contents (Elt Ideal))
  (x25 : (⟨S128, .f32⟩ : BufTy).Contents (Elt Ideal))
  (Y : Fin 10000 → Fin 128 → ℝ) (w w' : Fin 128 → Fin 128 → ℝ) (b b' : Fin 128 → ℝ) (w'' : Fin 128 → Fin 40 → ℝ) (b'' : Fin 40 → ℝ)
  (h : val_main_v375 (F := Ideal) x0 x1 x2 x3 x4 x5 x6 x7 x8 x9 x10 x11 x12 x13 x14 x15 x16 x17 x18 x19 x20 x21 x22 x23 x24 x25 = arr2 Y)

include h

/-- The first linear map, rectified. -/
theorem v380_real : val_main_v380 (F := Ideal) x0 x1 x2 x3 x4 x5 x6 x7 x8 x9 x10 x11 x12 x13 x14 x15 x16 x17 x18 x19 x20 x21 x22 x23 x24 x25 (arr2 w) (arr1 b) = arr2 (activate (prod Y w) b) := by
  refine eq_arr2 fun n c => ?_
  rw [val_main_v380_apply, val_main_v379_apply, val_main_v376_apply, val_main_v378_apply, val_main_v377_apply, val_main_call16_v0_apply,
    val_main_call16_cst_apply, Ideal.ofBits_def, Ideal.ofBits_zero_f32, h]
  unfold activate prod
  rw [coe_max_real, EReal.coe_add, coe_sum_real]
  simp only [EReal.coe_mul]
  rfl

/-- The second linear map. -/
theorem v384_real : val_main_v384 (F := Ideal) x0 x1 x2 x3 x4 x5 x6 x7 x8 x9 x10 x11 x12 x13 x14 x15 x16 x17 x18 x19 x20 x21 x22 x23 x24 x25 (arr2 w) (arr1 b) (arr2 w') (arr1 b')
    = arr2 (affine (activate (prod Y w) b) w' b') := by
  refine eq_arr2 fun n c => ?_
  rw [val_main_v384_apply, val_main_v381_apply, val_main_v383_apply, val_main_v382_apply, v380_real (h := h)]
  unfold affine prod
  rw [EReal.coe_add, coe_sum_real]
  simp only [EReal.coe_mul]
  rfl

/-- The third linear map. -/
theorem v388_real : val_main_v388 (F := Ideal) x0 x1 x2 x3 x4 x5 x6 x7 x8 x9 x10 x11 x12 x13 x14 x15 x16 x17 x18 x19 x20 x21 x22 x23 x24 x25 (arr2 w) (arr1 b) (arr2 w') (arr1 b') (arr2 w'') (arr1 b'')
    = arr2 (logits Y w b w' b' w'' b'') := by
  refine eq_arr2 fun n c => ?_
  rw [val_main_v388_apply, val_main_v385_apply, val_main_v387_apply, val_main_v386_apply, v384_real (h := h)]
  unfold logits
  rw [affine, prod, EReal.coe_add, coe_sum_real]
  simp only [EReal.coe_mul]
  rfl

/-- The reference's result from a real last layer is the logarithm of the normalised exponentials of the three linear maps. -/
theorem v389_real : val_main_v389 (F := Ideal) x0 x1 x2 x3 x4 x5 x6 x7 x8 x9 x10 x11 x12 x13 x14 x15 x16 x17 x18 x19 x20 x21 x22 x23 x24 x25 (arr2 w) (arr1 b) (arr2 w') (arr1 b') (arr2 w'') (arr1 b'')
    = arr2 (logSoft (logits Y w b w' b' w'' b'')) := by
  have hm : ∀ n, ∃ r : ℝ, val_main_call17_v0 (F := Ideal) x0 x1 x2 x3 x4 x5 x6 x7 x8 x9 x10 x11 x12 x13 x14 x15 x16 x17 x18 x19 x20 x21 x22 x23 x24 x25 (arr2 w) (arr1 b) (arr2 w') (arr1 b') (arr2 w'') (arr1 b'') (ix1 n) = (r : EReal) := by
    intro n
    unfold val_main_call17_v0
    rw [v388_real (h := h)]
    refine hostReduceMax_real _ _ reducesTo_S10000x40_S10000_d1 h_S_ lit_bot (ix1 n) (fun i _ => EReal.coe_ne_top _) (ix2 n 0) ?_
      (EReal.coe_ne_bot _)
    rw [eq_ix1 (Shape.ReducesTo.drop _ _)]
    congr 1
  choose m hm using hm
  have h5 : val_main_call17_v5 (F := Ideal) x0 x1 x2 x3 x4 x5 x6 x7 x8 x9 x10 x11 x12 x13 x14 x15 x16 x17 x18 x19 x20 x21 x22 x23 x24 x25 (arr2 w) (arr1 b) (arr2 w') (arr1 b') (arr2 w'') (arr1 b'')
      = arr2 fun n c => logits Y w b w' b' w'' b'' n c - m n := by
    refine eq_arr2 fun n c => ?_
    rw [val_main_call17_v5_apply, v388_real (h := h), val_main_call17_v4_apply, val_main_call17_v3_apply, val_main_call17_v2_apply,
      val_main_call17_v1_apply, val_main_call17_cst_0_apply, Ideal.ofBits_def, lit_bot,
      show idx_main_call17_v3 (idx_main_call17_v4 (ix2 n c)) = ix1 n from eq_ix1 _, hm, EReal.coe_sub]
    show _ - max ⊥ _ = _
    rw [max_eq_right bot_le]
    rfl
  refine eq_arr2 fun n c => ?_
  rw [val_main_v389_apply, h5, val_main_call17_v10_apply, val_main_call17_v9_apply, val_main_call17_v8_apply, val_main_call17_v7_apply,
    val_main_call17_cst_1_apply, Ideal.ofBits_def, Ideal.ofBits_zero_f32, zero_add]
  have hs : (∑ k : Fin 40, val_main_call17_v6 (F := Ideal) x0 x1 x2 x3 x4 x5 x6 x7 x8 x9 x10 x11 x12 x13 x14 x15 x16 x17 x18 x19 x20 x21 x22 x23 x24 x25 (arr2 w) (arr1 b) (arr2 w') (arr1 b') (arr2 w'') (arr1 b'')
        (idx_main_call17_v7 (idx_main_call17_v8 (idx_main_call17_v10 (ix2 n c))) k))
      = ((∑ k : Fin 40, Real.exp (logits Y w b w' b' w'' b'' n k - m n) : ℝ) : EReal) := by
    rw [coe_sum_real]
    refine Finset.sum_congr rfl fun k _ => ?_
    rw [val_main_call17_v6_apply, h5]
    exact Ideal.exp_coe _
  rw [hs]
  have hp := sumexp_pos (by decide) (logits Y w b w' b' w'' b'' n) (m n)
  have hl : Ideal.log ((∑ k : Fin 40, Real.exp (logits Y w b w' b' w'' b'' n k - m n) : ℝ) : EReal)
      = ((Real.log (∑ k, Real.exp (logits Y w b w' b' w'' b'' n k)) - m n : ℝ) : EReal) := by
    rw [Ideal.log_coe, if_neg (not_le.mpr hp), log_shift (by decide)]
  refine (congrArg (fun z => ((logits Y w b w' b' w'' b'' n c - m n : ℝ) : EReal) - z) hl).trans ?_
  rw [← EReal.coe_sub]
  exact congrArg Real.toEReal (by unfold logSoft; ring)

end Cert.Proof

end
-- ==== Proof.RefWhole.lean ====
/-
  The whole reference among the reals: four layers, three linear maps and the logarithms of the normalised exponentials.
-/
module

public import proofs.«01_k».proof.Proof.Shift
public import proofs.«01_k».proof.Proof.RefLayer
public import proofs.«01_k».proof.Proof.RefTail

@[expose] public section

noncomputable section

namespace Cert.Proof

open Idealize.ShloMosaic Idealize.ShloMosaic.ValueIdx Cert.ReferenceIdeal Cert.ReferenceIdeal.Gen Cert.ReferenceIdeal.Read

variable (X : Fin 10000 → Fin 128 → ℝ) (e : IVec S2x320000 32)
variable (W1 W2 W3 W4 U1 U2 : Fin 128 → Fin 128 → ℝ)
variable (a1 d1 b1 g1 n1 a2 d2 b2 g2 n2 a3 d3 b3 g3 n3 a4 d4 b4 g4 n4 u1 u2 : Fin 128 → ℝ)
variable (U3 : Fin 128 → Fin 40 → ℝ) (u3 : Fin 40 → ℝ)

/-- The layers of the reference at arrays of reals. -/
theorem layers_real : val_main_v375 (F := Ideal) (arr2 X) e (arr2 W1) (arr1 a1) (arr1 d1) (arr1 b1) (arr1 g1) (arr1 n1) (arr2 W2) (arr1 a2) (arr1 d2) (arr1 b2) (arr1 g2) (arr1 n2)
    (arr2 W3) (arr1 a3) (arr1 d3) (arr1 b3) (arr1 g3) (arr1 n3) (arr2 W4) (arr1 a4) (arr1 d4) (arr1 b4) (arr1 g4) (arr1 n4)
    = arr2 (layer (graph e) (layer (graph e) (layer (graph e) (layer (graph e) X W1 a1 d1 b1 g1 n1) W2 a2 d2 b2 g2 n2) W3 a3 d3 b3 g3 n3) W4 a4 d4 b4 g4 n4) := by
  rw [layer4_eq, layer3_eq, layer2_eq, v96_real, v96_real, v96_real, v96_real]

/-- The reference's result at arrays of reals. -/
theorem reference_real : val_main_v389 (F := Ideal) (arr2 X) e (arr2 W1) (arr1 a1) (arr1 d1) (arr1 b1) (arr1 g1) (arr1 n1) (arr2 W2) (arr1 a2) (arr1 d2) (arr1 b2) (arr1 g2) (arr1 n2)
    (arr2 W3) (arr1 a3) (arr1 d3) (arr1 b3) (arr1 g3) (arr1 n3) (arr2 W4) (arr1 a4) (arr1 d4) (arr1 b4) (arr1 g4) (arr1 n4) (arr2 U1)
    (arr1 u1) (arr2 U2) (arr1 u2) (arr2 U3) (arr1 u3)
    = arr2 (logSoft (logits (layer (graph e) (layer (graph e) (layer (graph e) (layer (graph e) X W1 a1 d1 b1 g1 n1) W2 a2 d2 b2 g2 n2) W3 a3 d3 b3 g3 n3) W4 a4 d4 b4 g4 n4) U1 u1 U2 u2 U3 u3)) :=
  (v389_real (h := layers_real X e W1 W2 W3 W4 a1 d1 b1 g1 n1 a2 d2 b2 g2 n2 a3 d3 b3 g3 n3 a4 d4 b4 g4 n4)) U1 U2 u1 u2 U3 u3

end Cert.Proof

end
-- ==== Proof.PreReal.lean ====
/-
  What the precondition says of the float arguments: every entry is a real number.
-/
module

public import proofs.«01_k».proof.Pre_finite_floats
public import proofs.«01_k».proof.Proof.Reading
public import proofs.«01_k».proof.Proof.Graph
public import Idealize.ShloMosaic.Lib.ReduceAll
public import Idealize.ShloMosaic.Lib.Affine

@[expose] public section

set_option maxRecDepth 16384

noncomputable section

namespace Cert.Proof

open Idealize.ShloMosaic
open Idealize.ShloMosaic.ValueIdx Cert.Pre_finite_floats Cert.Pre_finite_floats.Facts

/-- The one result of a test has one index. -/
instance : Subsingleton S_.Idx := ⟨fun a b => funext fun i => i.elim0⟩

/-- An extended real whose size is below the top is a real. -/
theorem real_of_below {x : EReal} (h : max x (-x) < ⊤) : ∃ r : ℝ, x = (r : EReal) := by
  induction x with
  | bot => simp at h
  | coe r => exact ⟨r, rfl⟩
  | top => simp at h

/-- One array's test: the bit is set only when every entry is a real. -/
theorem finite_of_bit {S : Shape} {x : FVec Ideal S .f32} {axes : List (Fin S.rank)} {hb : S_.BroadcastsInDim S ![]}
    {hr : S.ReducesTo axes S_} {h0 : 0 < S_.numel} {j : S_.Idx}
    (h : Host.reduce IntOp.andi (cmpf .olt (Host.absf x) (broadcastInDim S ![] hb (constant S_ .f32 0x7F800000#32)))
      (constantI S_ 1 1#1) hr h0 j = 1#1) (i : S.Idx) : ∃ r : ℝ, x i = (r : EReal) := by
  have hi : Ideal.cmp .olt (max (x i) (-x i)) (Ideal.ofBits .f32 0x7F800000#32) = 1#1 := Host.reduce_andi_all _ _ hr h0 j h i
  rw [lit_top] at hi
  unfold Ideal.cmp at hi
  by_cases hx : max (x i) (-x i) < ⊤
  · exact real_of_below hx
  · simp [hx] at hi

/-- A vector whose entries are reals is a vector of reals. -/
theorem vector_real {a : Nat} {x : (⟨1, ![a]⟩ : Shape).Idx → EReal} (h : ∀ i, ∃ r : ℝ, x i = (r : EReal)) : ∃ f, x = arr1 f := by
  choose r hr using h
  exact ⟨fun i => r (ix1 i), eq_arr1 fun i => hr _⟩

/-- A matrix whose entries are reals is a matrix of reals. -/
theorem matrix_real {a b : Nat} {x : (⟨2, ![a, b]⟩ : Shape).Idx → EReal} (h : ∀ i, ∃ r : ℝ, x i = (r : EReal)) :
    ∃ f, x = arr2 f := by
  choose r hr using h
  exact ⟨fun i j => r (ix2 i j), eq_arr2 fun i j => hr _⟩

/-- A conjunction of two bits is set only when both are. -/
theorem both_set {a b : IVec S_ 1} {j : S_.Idx} : andi a b j = 1#1 ↔ a j = 1#1 ∧ b j = 1#1 := IntOp.andi_eq_one

/-- Under the precondition each float argument is an array of reals. -/
theorem arguments_real [Facts]
    (x0 : FVec Ideal S10000x128 .f32) (x1 : IVec S2x320000 32) (x2 : FVec Ideal S128x128 .f32) (x3 : FVec Ideal S128 .f32)
    (x4 : FVec Ideal S128 .f32) (x5 : FVec Ideal S128 .f32) (x6 : FVec Ideal S128 .f32) (x7 : FVec Ideal S128 .f32) (x8 :
    FVec Ideal S128x128 .f32) (x9 : FVec Ideal S128 .f32) (x10 : FVec Ideal S128 .f32) (x11 : FVec Ideal S128 .f32) (x12 :
    FVec Ideal S128 .f32) (x13 : FVec Ideal S128 .f32) (x14 : FVec Ideal S128x128 .f32) (x15 : FVec Ideal S128 .f32) (x16 :
    FVec Ideal S128 .f32) (x17 : FVec Ideal S128 .f32) (x18 : FVec Ideal S128 .f32) (x19 : FVec Ideal S128 .f32) (x20 : FVec
    Ideal S128x128 .f32) (x21 : FVec Ideal S128 .f32) (x22 : FVec Ideal S128 .f32) (x23 : FVec Ideal S128 .f32) (x24 : FVec
    Ideal S128 .f32) (x25 : FVec Ideal S128 .f32) (x26 : FVec Ideal S128x128 .f32) (x27 : FVec Ideal S128 .f32) (x28 : FVec
    Ideal S128x128 .f32) (x29 : FVec Ideal S128 .f32) (x30 : FVec Ideal S128x40 .f32) (x31 : FVec Ideal S40 .f32)
    (h : fn (F := Ideal) x0 x1 x2 x3 x4 x5 x6 x7 x8 x9 x10 x11 x12 x13 x14 x15 x16 x17 x18 x19 x20 x21 x22 x23 x24 x25 x26 x27 x28 x29 x30 x31 = fun _ => 1#1) :
    (∃ f, x0 = arr2 f) ∧ (∃ f, x2 = arr2 f) ∧ (∃ f, x3 = arr1 f) ∧ (∃ f, x4 = arr1 f) ∧ (∃ f, x5 = arr1 f) ∧ (∃ f, x6 = arr1
      f) ∧ (∃ f, x7 = arr1 f) ∧ (∃ f, x8 = arr2 f) ∧ (∃ f, x9 = arr1 f) ∧ (∃ f, x10 = arr1 f) ∧ (∃ f, x11 = arr1 f) ∧ (∃ f,
      x12 = arr1 f) ∧ (∃ f, x13 = arr1 f) ∧ (∃ f, x14 = arr2 f) ∧ (∃ f, x15 = arr1 f) ∧ (∃ f, x16 = arr1 f) ∧ (∃ f, x17 = arr1
      f) ∧ (∃ f, x18 = arr1 f) ∧ (∃ f, x19 = arr1 f) ∧ (∃ f, x20 = arr2 f) ∧ (∃ f, x21 = arr1 f) ∧ (∃ f, x22 = arr1 f) ∧ (∃ f,
      x23 = arr1 f) ∧ (∃ f, x24 = arr1 f) ∧ (∃ f, x25 = arr1 f) ∧ (∃ f, x26 = arr2 f) ∧ (∃ f, x27 = arr1 f) ∧ (∃ f, x28 = arr2
      f) ∧ (∃ f, x29 = arr1 f) ∧ (∃ f, x30 = arr2 f) ∧ (∃ f, x31 = arr1 f) := by
  replace h := congrFun h (fun i => i.elim0)
  simp only [fn, fn_part1, fn_part2, fn_part3, fn_part4, fn_part5, fn_part6, fn_part7, fn_part8, both_set] at h
  exact ⟨matrix_real (finite_of_bit (h.1.1.1.1.1.1.1.1.1.1.1.1.1.1.1.1.1.1.1.1.1.1.1.1.1.1.1.1.1.1)),
    matrix_real (finite_of_bit (h.1.1.1.1.1.1.1.1.1.1.1.1.1.1.1.1.1.1.1.1.1.1.1.1.1.1.1.1.1.2)),
    vector_real (finite_of_bit (h.1.1.1.1.1.1.1.1.1.1.1.1.1.1.1.1.1.1.1.1.1.1.1.1.1.1.1.1.2)),
    vector_real (finite_of_bit (h.1.1.1.1.1.1.1.1.1.1.1.1.1.1.1.1.1.1.1.1.1.1.1.1.1.1.1.2)),
    vector_real (finite_of_bit (h.1.1.1.1.1.1.1.1.1.1.1.1.1.1.1.1.1.1.1.1.1.1.1.1.1.1.2)),
    vector_real (finite_of_bit (h.1.1.1.1.1.1.1.1.1.1.1.1.1.1.1.1.1.1.1.1.1.1.1.1.1.2)),
    vector_real (finite_of_bit (h.1.1.1.1.1.1.1.1.1.1.1.1.1.1.1.1.1.1.1.1.1.1.1.1.2)),
    matrix_real (finite_of_bit (h.1.1.1.1.1.1.1.1.1.1.1.1.1.1.1.1.1.1.1.1.1.1.1.2)),
    vector_real (finite_of_bit (h.1.1.1.1.1.1.1.1.1.1.1.1.1.1.1.1.1.1.1.1.1.1.2)),
    vector_real (finite_of_bit (h.1.1.1.1.1.1.1.1.1.1.1.1.1.1.1.1.1.1.1.1.1.2)),
    vector_real (finite_of_bit (h.1.1.1.1.1.1.1.1.1.1.1.1.1.1.1.1.1.1.1.1.2)),
    vector_real (finite_of_bit (h.1.1.1.1.1.1.1.1.1.1.1.1.1.1.1.1.1.1.1.2)),
    vector_real (finite_of_bit (h.1.1.1.1.1.1.1.1.1.1.1.1.1.1.1.1.1.1.2)),
    matrix_real (finite_of_bit (h.1.1.1.1.1.1.1.1.1.1.1.1.1.1.1.1.1.2)),
    vector_real (finite_of_bit (h.1.1.1.1.1.1.1.1.1.1.1.1.1.1.1.1.2)),
    vector_real (finite_of_bit (h.1.1.1.1.1.1.1.1.1.1.1.1.1.1.1.2)),
    vector_real (finite_of_bit (h.1.1.1.1.1.1.1.1.1.1.1.1.1.1.2)),
    vector_real (finite_of_bit (h.1.1.1.1.1.1.1.1.1.1.1.1.1.2)),
    vector_real (finite_of_bit (h.1.1.1.1.1.1.1.1.1.1.1.1.2)),
    matrix_real (finite_of_bit (h.1.1.1.1.1.1.1.1.1.1.1.2)),
    vector_real (finite_of_bit (h.1.1.1.1.1.1.1.1.1.1.2)),
    vector_real (finite_of_bit (h.1.1.1.1.1.1.1.1.1.2)),
    vector_real (finite_of_bit (h.1.1.1.1.1.1.1.1.2)),
    vector_real (finite_of_bit (h.1.1.1.1.1.1.1.2)),
    vector_real (finite_of_bit (h.1.1.1.1.1.1.2)),
    matrix_real (finite_of_bit (h.1.1.1.1.1.2)),
    vector_real (finite_of_bit (h.1.1.1.1.2)),
    matrix_real (finite_of_bit (h.1.1.1.2)),
    vector_real (finite_of_bit (h.1.1.2)),
    matrix_real (finite_of_bit (h.1.2)),
    vector_real (finite_of_bit (h.2))⟩

end Cert.Proof

end
-- ==== Proof.KernelRun.lean ====
/-
  A run of the kernel, with every array it leaves: the generated frame's launch over the same segments, read at every
  buffer that outlives the run.
-/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and each buffer that outlives it ends at the fold's last contents. -/
theorem left : θ_run defs (onTc (τ := τ) (main (F := F))) ⟨m, fun _ => 0, ρ⟩ (fun r =>
      ∀ c : Dev nD, ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Cert.Proof.KernelRun

end
-- ==== Proof.Agree.lean ====
/-
  The kernel's result is the reference's, and the two programs' claim over the extended reals.
-/
module

public import proofs.«01_k».proof.Defs
public import proofs.«01_k».proof.Proof.Stage
public import proofs.«01_k».proof.Proof.RefWhole
public import proofs.«01_k».proof.Proof.PreReal
public import proofs.«01_k».proof.Proof.KernelRun
public import proofs.«01_k».proof.Proof.Frames
public import proofs.«01_k».proof.Proof.Gen.ReferenceIdeal.Run

@[expose] public section

set_option maxRecDepth 16384
set_option maxHeartbeats 2000000

noncomputable section

namespace Cert.Proof

open Idealize.ShloMosaic hiding ix1 ix2
open Idealize.ShloMosaic.ValueIdx Idealize.ShloMosaic.TcCoe Idealize.SL.Sem Cert.KernelIdeal Cert.KernelIdeal.Gen
open Cert.Proof.Stage

section Kernel

variable (mem : (ℓ : Loc nD τ sig) → Buf (Elt Ideal) ℓ) (ρ : Dev nD → PrngReg) (c : Dev nD)
variable (X : Fin 10000 → Fin 128 → ℝ) (e : IVec S2x320000 32)
variable (W1 W2 W3 W4 U1 U2 : Fin 128 → Fin 128 → ℝ)
variable (a1 d1 b1 g1 n1 a2 d2 b2 g2 n2 a3 d3 b3 g3 n3 a4 d4 b4 g4 n4 u1 u2 : Fin 128 → ℝ)
variable (U3 : Fin 128 → Fin 40 → ℝ) (u3 : Fin 40 → ℝ)

/-- The kernel's result at arrays of reals. -/
theorem kernel_real
    (p0 : mem ((c : Thread nD τ).loc main_arg0) = arr2 X) (p1 : mem ((c : Thread nD τ).loc main_arg1) = e)
    (p2 : mem ((c : Thread nD τ).loc main_arg2) = arr2 W1) (p3 : mem ((c : Thread nD τ).loc main_arg3) = arr1 a1)
    (p4 : mem ((c : Thread nD τ).loc main_arg4) = arr1 d1) (p5 : mem ((c : Thread nD τ).loc main_arg5) = arr1 b1)
    (p6 : mem ((c : Thread nD τ).loc main_arg6) = arr1 g1) (p7 : mem ((c : Thread nD τ).loc main_arg7) = arr1 n1)
    (p8 : mem ((c : Thread nD τ).loc main_arg8) = arr2 W2) (p9 : mem ((c : Thread nD τ).loc main_arg9) = arr1 a2)
    (p10 : mem ((c : Thread nD τ).loc main_arg10) = arr1 d2) (p11 : mem ((c : Thread nD τ).loc main_arg11) = arr1 b2)
    (p12 : mem ((c : Thread nD τ).loc main_arg12) = arr1 g2) (p13 : mem ((c : Thread nD τ).loc main_arg13) = arr1 n2)
    (p14 : mem ((c : Thread nD τ).loc main_arg14) = arr2 W3) (p15 : mem ((c : Thread nD τ).loc main_arg15) = arr1 a3)
    (p16 : mem ((c : Thread nD τ).loc main_arg16) = arr1 d3) (p17 : mem ((c : Thread nD τ).loc main_arg17) = arr1 b3)
    (p18 : mem ((c : Thread nD τ).loc main_arg18) = arr1 g3) (p19 : mem ((c : Thread nD τ).loc main_arg19) = arr1 n3)
    (p20 : mem ((c : Thread nD τ).loc main_arg20) = arr2 W4) (p21 : mem ((c : Thread nD τ).loc main_arg21) = arr1 a4)
    (p22 : mem ((c : Thread nD τ).loc main_arg22) = arr1 d4) (p23 : mem ((c : Thread nD τ).loc main_arg23) = arr1 b4)
    (p24 : mem ((c : Thread nD τ).loc main_arg24) = arr1 g4) (p25 : mem ((c : Thread nD τ).loc main_arg25) = arr1 n4)
    (p26 : mem ((c : Thread nD τ).loc main_arg26) = arr2 U1) (p27 : mem ((c : Thread nD τ).loc main_arg27) = arr1 u1)
    (p28 : mem ((c : Thread nD τ).loc main_arg28) = arr2 U2) (p29 : mem ((c : Thread nD τ).loc main_arg29) = arr1 u2)
    (p30 : mem ((c : Thread nD τ).loc main_arg30) = arr2 U3) (p31 : mem ((c : Thread nD τ).loc main_arg31) = arr1 u3) :
    V10 mem ρ c main_v200 = arr2 (logSoft (logits (layer (graph e) (layer (graph e) (layer (graph e) (layer (graph e) X W1 a1 d1 b1 g1 n1) W2 a2 d2 b2 g2 n2) W3 a3 d3 b3 g3 n3) W4 a4 d4 b4 g4 n4) U1 u1 U2 u2 U3 u3)) := by
  obtain ⟨r0, r1, r2, ⟨m0, r3⟩, rs, rd⟩ := start mem ρ c p0 p1 p2 p3 p4
  obtain ⟨q0, q1, q2, ⟨m1, q3⟩, qs, qd⟩ := second mem ρ c r0 r1 r2 r3 rs rd p5 p6 p7 p8 p9 p10
  change _ = arr2 (prod (layer (graph e) X W1 a1 d1 b1 g1 n1) W2) at q0
  change _ = arr2 (col (score (prod (layer (graph e) X W1 a1 d1 b1 g1 n1) W2) a2)) at q1
  change _ = arr2 (col (score (prod (layer (graph e) X W1 a1 d1 b1 g1 n1) W2) d2)) at q2
  clear r0 r1 r2 r3 rs rd
  rename' q0 => r0, q1 => r1, q2 => r2, q3 => r3, qs => rs, qd => rd
  obtain ⟨q0, q1, q2, ⟨m2, q3⟩, qs, qd⟩ := third mem ρ c r0 r1 r2 r3 rs rd p11 p12 p13 p14 p15 p16
  change _ = arr2 (prod (layer (graph e) (layer (graph e) X W1 a1 d1 b1 g1 n1) W2 a2 d2 b2 g2 n2) W3) at q0
  change _ = arr2 (col (score (prod (layer (graph e) (layer (graph e) X W1 a1 d1 b1 g1 n1) W2 a2 d2 b2 g2 n2) W3) a3)) at q1
  change _ = arr2 (col (score (prod (layer (graph e) (layer (graph e) X W1 a1 d1 b1 g1 n1) W2 a2 d2 b2 g2 n2) W3) d3)) at q2
  clear r0 r1 r2 r3 rs rd
  rename' q0 => r0, q1 => r1, q2 => r2, q3 => r3, qs => rs, qd => rd
  obtain ⟨q0, q1, q2, ⟨m3, q3⟩, qs, qd⟩ := fourth mem ρ c r0 r1 r2 r3 rs rd p17 p18 p19 p20 p21 p22
  change _ = arr2 (prod (layer (graph e) (layer (graph e) (layer (graph e) X W1 a1 d1 b1 g1 n1) W2 a2 d2 b2 g2 n2) W3 a3 d3 b3 g3 n3) W4) at q0
  change _ = arr2 (col (score (prod (layer (graph e) (layer (graph e) (layer (graph e) X W1 a1 d1 b1 g1 n1) W2 a2 d2 b2 g2 n2) W3 a3 d3 b3 g3 n3) W4) a4)) at q1
  change _ = arr2 (col (score (prod (layer (graph e) (layer (graph e) (layer (graph e) X W1 a1 d1 b1 g1 n1) W2 a2 d2 b2 g2 n2) W3 a3 d3 b3 g3 n3) W4) d4)) at q2
  clear r0 r1 r2 r3 rs rd
  rename' q0 => r0, q1 => r1, q2 => r2, q3 => r3, qs => rs, qd => rd
  exact finish mem ρ c r0 r1 r2 r3 rs rd p23 p24 p25 p26 p27 p28 p29 p30 p31

end Kernel

/-- From arguments that pass the precondition the kernel leaves the reference's result. -/
theorem agree (mem : (ℓ : Loc nD τ sig) → Buf (Elt Ideal) ℓ) (ρ : Dev nD → PrngReg) (c : Dev nD)
    (h : Cert.Pre_finite_floats.fn (F := Ideal) (mem ((c : Thread nD τ).loc main_arg0)) (mem ((c : Thread nD τ).loc main_arg1)) (mem ((c : Thread nD τ).loc main_arg2))
      (mem ((c : Thread nD τ).loc main_arg3)) (mem ((c : Thread nD τ).loc main_arg4)) (mem ((c : Thread nD τ).loc main_arg5))
      (mem ((c : Thread nD τ).loc main_arg6)) (mem ((c : Thread nD τ).loc main_arg7)) (mem ((c : Thread nD τ).loc main_arg8))
      (mem ((c : Thread nD τ).loc main_arg9)) (mem ((c : Thread nD τ).loc main_arg10)) (mem ((c : Thread nD τ).loc main_arg11))
      (mem ((c : Thread nD τ).loc main_arg12)) (mem ((c : Thread nD τ).loc main_arg13)) (mem ((c : Thread nD τ).loc main_arg14))
      (mem ((c : Thread nD τ).loc main_arg15)) (mem ((c : Thread nD τ).loc main_arg16)) (mem ((c : Thread nD τ).loc main_arg17))
      (mem ((c : Thread nD τ).loc main_arg18)) (mem ((c : Thread nD τ).loc main_arg19)) (mem ((c : Thread nD τ).loc main_arg20))
      (mem ((c : Thread nD τ).loc main_arg21)) (mem ((c : Thread nD τ).loc main_arg22)) (mem ((c : Thread nD τ).loc main_arg23))
      (mem ((c : Thread nD τ).loc main_arg24)) (mem ((c : Thread nD τ).loc main_arg25)) (mem ((c : Thread nD τ).loc main_arg26))
      (mem ((c : Thread nD τ).loc main_arg27)) (mem ((c : Thread nD τ).loc main_arg28)) (mem ((c : Thread nD τ).loc main_arg29))
      (mem ((c : Thread nD τ).loc main_arg30)) (mem ((c : Thread nD τ).loc main_arg31)) = fun _ => 1#1) :
    Cert.ReferenceIdeal.Read.val_main_v389 (F := Ideal) (mem ((c : Thread nD τ).loc main_arg0)) (mem ((c : Thread nD τ).loc main_arg1)) (mem ((c : Thread nD τ).loc main_arg2))
      (mem ((c : Thread nD τ).loc main_arg3)) (mem ((c : Thread nD τ).loc main_arg4)) (mem ((c : Thread nD τ).loc main_arg5))
      (mem ((c : Thread nD τ).loc main_arg6)) (mem ((c : Thread nD τ).loc main_arg7)) (mem ((c : Thread nD τ).loc main_arg8))
      (mem ((c : Thread nD τ).loc main_arg9)) (mem ((c : Thread nD τ).loc main_arg10)) (mem ((c : Thread nD τ).loc main_arg11))
      (mem ((c : Thread nD τ).loc main_arg12)) (mem ((c : Thread nD τ).loc main_arg13)) (mem ((c : Thread nD τ).loc main_arg14))
      (mem ((c : Thread nD τ).loc main_arg15)) (mem ((c : Thread nD τ).loc main_arg16)) (mem ((c : Thread nD τ).loc main_arg17))
      (mem ((c : Thread nD τ).loc main_arg18)) (mem ((c : Thread nD τ).loc main_arg19)) (mem ((c : Thread nD τ).loc main_arg20))
      (mem ((c : Thread nD τ).loc main_arg21)) (mem ((c : Thread nD τ).loc main_arg22)) (mem ((c : Thread nD τ).loc main_arg23))
      (mem ((c : Thread nD τ).loc main_arg24)) (mem ((c : Thread nD τ).loc main_arg25)) (mem ((c : Thread nD τ).loc main_arg26))
      (mem ((c : Thread nD τ).loc main_arg27)) (mem ((c : Thread nD τ).loc main_arg28)) (mem ((c : Thread nD τ).loc main_arg29))
      (mem ((c : Thread nD τ).loc main_arg30)) (mem ((c : Thread nD τ).loc main_arg31))
      = V10 mem ρ c main_v200 := by
  obtain ⟨⟨X, p0⟩, ⟨W1, p2⟩, ⟨a1, p3⟩, ⟨d1, p4⟩, ⟨b1, p5⟩, ⟨g1, p6⟩, ⟨n1, p7⟩, ⟨W2, p8⟩, ⟨a2, p9⟩, ⟨d2, p10⟩, ⟨b2, p11⟩, ⟨g2, p12⟩, ⟨n2, p13⟩, ⟨W3, p14⟩, ⟨a3, p15⟩, ⟨d3, p16⟩, ⟨b3, p17⟩, ⟨g3, p18⟩, ⟨n3, p19⟩, ⟨W4, p20⟩, ⟨a4, p21⟩, ⟨d4, p22⟩, ⟨b4, p23⟩, ⟨g4, p24⟩, ⟨n4, p25⟩, ⟨U1, p26⟩, ⟨u1, p27⟩, ⟨U2, p28⟩, ⟨u2, p29⟩, ⟨U3, p30⟩, ⟨u3, p31⟩⟩ :=
    arguments_real _ _ _ _ _ _ _ _ _ _ _ _ _ _ _ _ _ _ _ _ _ _ _ _ _ _ _ _ _ _ _ _ h
  rw [kernel_real mem ρ c X _ W1 W2 W3 W4 U1 U2 a1 d1 b1 g1 n1 a2 d2 b2 g2 n2 a3 d3 b3 g3 n3 a4 d4 b4 g4 n4 u1 u2 U3 u3 p0 rfl p2 p3 p4 p5 p6 p7 p8 p9 p10 p11 p12 p13 p14 p15 p16 p17 p18 p19 p20 p21 p22 p23 p24 p25 p26 p27 p28 p29 p30 p31, p0, p2, p3, p4, p5, p6, p7, p8, p9, p10, p11, p12, p13, p14, p15, p16, p17, p18, p19, p20, p21, p22, p23, p24, p25, p26, p27, p28, p29, p30, p31]
  exact reference_real X _ W1 W2 W3 W4 U1 U2 a1 d1 b1 g1 n1 a2 d2 b2 g2 n2 a3 d3 b3 g3 n3 a4 d4 b4 g4 n4 u1 u2 U3 u3

/-- The same of any arrays equal to the kernel's arguments. -/
theorem agree_at (mem : (ℓ : Loc nD τ sig) → Buf (Elt Ideal) ℓ) (ρ : Dev nD → PrngReg) (c : Dev nD)
    (h : Cert.Pre_finite_floats.fn (F := Ideal) (mem ((c : Thread nD τ).loc main_arg0)) (mem ((c : Thread nD τ).loc main_arg1)) (mem ((c : Thread nD τ).loc main_arg2))
      (mem ((c : Thread nD τ).loc main_arg3)) (mem ((c : Thread nD τ).loc main_arg4)) (mem ((c : Thread nD τ).loc main_arg5))
      (mem ((c : Thread nD τ).loc main_arg6)) (mem ((c : Thread nD τ).loc main_arg7)) (mem ((c : Thread nD τ).loc main_arg8))
      (mem ((c : Thread nD τ).loc main_arg9)) (mem ((c : Thread nD τ).loc main_arg10)) (mem ((c : Thread nD τ).loc main_arg11))
      (mem ((c : Thread nD τ).loc main_arg12)) (mem ((c : Thread nD τ).loc main_arg13)) (mem ((c : Thread nD τ).loc main_arg14))
      (mem ((c : Thread nD τ).loc main_arg15)) (mem ((c : Thread nD τ).loc main_arg16)) (mem ((c : Thread nD τ).loc main_arg17))
      (mem ((c : Thread nD τ).loc main_arg18)) (mem ((c : Thread nD τ).loc main_arg19)) (mem ((c : Thread nD τ).loc main_arg20))
      (mem ((c : Thread nD τ).loc main_arg21)) (mem ((c : Thread nD τ).loc main_arg22)) (mem ((c : Thread nD τ).loc main_arg23))
      (mem ((c : Thread nD τ).loc main_arg24)) (mem ((c : Thread nD τ).loc main_arg25)) (mem ((c : Thread nD τ).loc main_arg26))
      (mem ((c : Thread nD τ).loc main_arg27)) (mem ((c : Thread nD τ).loc main_arg28)) (mem ((c : Thread nD τ).loc main_arg29))
      (mem ((c : Thread nD τ).loc main_arg30)) (mem ((c : Thread nD τ).loc main_arg31)) = fun _ => 1#1)
    {y0 : FVec Ideal S10000x128 .f32} {y1 : IVec S2x320000 32} {y2 : FVec Ideal S128x128 .f32} {y3 : FVec Ideal S128 .f32}
    {y4 : FVec Ideal S128 .f32} {y5 : FVec Ideal S128 .f32} {y6 : FVec Ideal S128 .f32} {y7 : FVec Ideal S128 .f32}
    {y8 : FVec Ideal S128x128 .f32} {y9 : FVec Ideal S128 .f32} {y10 : FVec Ideal S128 .f32} {y11 : FVec Ideal S128 .f32}
    {y12 : FVec Ideal S128 .f32} {y13 : FVec Ideal S128 .f32} {y14 : FVec Ideal S128x128 .f32} {y15 : FVec Ideal S128 .f32}
    {y16 : FVec Ideal S128 .f32} {y17 : FVec Ideal S128 .f32} {y18 : FVec Ideal S128 .f32} {y19 : FVec Ideal S128 .f32}
    {y20 : FVec Ideal S128x128 .f32} {y21 : FVec Ideal S128 .f32} {y22 : FVec Ideal S128 .f32} {y23 : FVec Ideal S128 .f32}
    {y24 : FVec Ideal S128 .f32} {y25 : FVec Ideal S128 .f32} {y26 : FVec Ideal S128x128 .f32} {y27 : FVec Ideal S128 .f32}
    {y28 : FVec Ideal S128x128 .f32} {y29 : FVec Ideal S128 .f32} {y30 : FVec Ideal S128x40 .f32} {y31 : FVec Ideal S40 .f32}
    (e0 : y0 = mem ((c : Thread nD τ).loc main_arg0)) (e1 : y1 = mem ((c : Thread nD τ).loc main_arg1))
    (e2 : y2 = mem ((c : Thread nD τ).loc main_arg2)) (e3 : y3 = mem ((c : Thread nD τ).loc main_arg3))
    (e4 : y4 = mem ((c : Thread nD τ).loc main_arg4)) (e5 : y5 = mem ((c : Thread nD τ).loc main_arg5))
    (e6 : y6 = mem ((c : Thread nD τ).loc main_arg6)) (e7 : y7 = mem ((c : Thread nD τ).loc main_arg7))
    (e8 : y8 = mem ((c : Thread nD τ).loc main_arg8)) (e9 : y9 = mem ((c : Thread nD τ).loc main_arg9))
    (e10 : y10 = mem ((c : Thread nD τ).loc main_arg10)) (e11 : y11 = mem ((c : Thread nD τ).loc main_arg11))
    (e12 : y12 = mem ((c : Thread nD τ).loc main_arg12)) (e13 : y13 = mem ((c : Thread nD τ).loc main_arg13))
    (e14 : y14 = mem ((c : Thread nD τ).loc main_arg14)) (e15 : y15 = mem ((c : Thread nD τ).loc main_arg15))
    (e16 : y16 = mem ((c : Thread nD τ).loc main_arg16)) (e17 : y17 = mem ((c : Thread nD τ).loc main_arg17))
    (e18 : y18 = mem ((c : Thread nD τ).loc main_arg18)) (e19 : y19 = mem ((c : Thread nD τ).loc main_arg19))
    (e20 : y20 = mem ((c : Thread nD τ).loc main_arg20)) (e21 : y21 = mem ((c : Thread nD τ).loc main_arg21))
    (e22 : y22 = mem ((c : Thread nD τ).loc main_arg22)) (e23 : y23 = mem ((c : Thread nD τ).loc main_arg23))
    (e24 : y24 = mem ((c : Thread nD τ).loc main_arg24)) (e25 : y25 = mem ((c : Thread nD τ).loc main_arg25))
    (e26 : y26 = mem ((c : Thread nD τ).loc main_arg26)) (e27 : y27 = mem ((c : Thread nD τ).loc main_arg27))
    (e28 : y28 = mem ((c : Thread nD τ).loc main_arg28)) (e29 : y29 = mem ((c : Thread nD τ).loc main_arg29))
    (e30 : y30 = mem ((c : Thread nD τ).loc main_arg30)) (e31 : y31 = mem ((c : Thread nD τ).loc main_arg31)) :
    Cert.ReferenceIdeal.Read.val_main_v389 (F := Ideal) y0 y1 y2 y3 y4 y5 y6 y7 y8 y9 y10 y11 y12 y13 y14 y15 y16 y17 y18 y19 y20 y21 y22 y23 y24 y25 y26 y27 y28 y29 y30 y31 = V10 mem ρ c main_v200 := by
  subst e0 e1 e2 e3 e4 e5 e6 e7 e8 e9 e10 e11 e12 e13 e14 e15 e16 e17 e18 e19 e20 e21 e22 e23 e24 e25 e26 e27 e28 e29 e30 e31
  exact agree mem ρ c h

/-- The two programs end with the same result at arguments that pass the precondition. -/
theorem results_equal : algebraic_KernelIdeal_ReferenceIdeal_pre_finite_floats := by
  intro m g m' g' hpre hargs
  refine ⟨fun c => V10 m g c main_v200, ?_, ?_⟩
  · refine (θ_run _ _ _).mono (fun r h c => ?_) (KernelRun.left m g)
    exact ⟨h c _ (mem_uc main_v200 (by decide)),
      (h c _ (mem_uc main_arg0 (by decide))).trans (W10_main_arg0 m g c),
      (h c _ (mem_uc main_arg1 (by decide))).trans (W10_main_arg1 m g c),
      (h c _ (mem_uc main_arg2 (by decide))).trans (W10_main_arg2 m g c),
      (h c _ (mem_uc main_arg3 (by decide))).trans (W10_main_arg3 m g c),
      (h c _ (mem_uc main_arg4 (by decide))).trans (W10_main_arg4 m g c),
      (h c _ (mem_uc main_arg5 (by decide))).trans (W10_main_arg5 m g c),
      (h c _ (mem_uc main_arg6 (by decide))).trans (W10_main_arg6 m g c),
      (h c _ (mem_uc main_arg7 (by decide))).trans (W10_main_arg7 m g c),
      (h c _ (mem_uc main_arg8 (by decide))).trans (W10_main_arg8 m g c),
      (h c _ (mem_uc main_arg9 (by decide))).trans (W10_main_arg9 m g c),
      (h c _ (mem_uc main_arg10 (by decide))).trans (W10_main_arg10 m g c),
      (h c _ (mem_uc main_arg11 (by decide))).trans (W10_main_arg11 m g c),
      (h c _ (mem_uc main_arg12 (by decide))).trans (W10_main_arg12 m g c),
      (h c _ (mem_uc main_arg13 (by decide))).trans (W10_main_arg13 m g c),
      (h c _ (mem_uc main_arg14 (by decide))).trans (W10_main_arg14 m g c),
      (h c _ (mem_uc main_arg15 (by decide))).trans (W10_main_arg15 m g c),
      (h c _ (mem_uc main_arg16 (by decide))).trans (W10_main_arg16 m g c),
      (h c _ (mem_uc main_arg17 (by decide))).trans (W10_main_arg17 m g c),
      (h c _ (mem_uc main_arg18 (by decide))).trans (W10_main_arg18 m g c),
      (h c _ (mem_uc main_arg19 (by decide))).trans (W10_main_arg19 m g c),
      (h c _ (mem_uc main_arg20 (by decide))).trans (W10_main_arg20 m g c),
      (h c _ (mem_uc main_arg21 (by decide))).trans (W10_main_arg21 m g c),
      (h c _ (mem_uc main_arg22 (by decide))).trans (W10_main_arg22 m g c),
      (h c _ (mem_uc main_arg23 (by decide))).trans (W10_main_arg23 m g c),
      (h c _ (mem_uc main_arg24 (by decide))).trans (W10_main_arg24 m g c),
      (h c _ (mem_uc main_arg25 (by decide))).trans (W10_main_arg25 m g c),
      (h c _ (mem_uc main_arg26 (by decide))).trans (W10_main_arg26 m g c),
      (h c _ (mem_uc main_arg27 (by decide))).trans (W10_main_arg27 m g c),
      (h c _ (mem_uc main_arg28 (by decide))).trans (W10_main_arg28 m g c),
      (h c _ (mem_uc main_arg29 (by decide))).trans (W10_main_arg29 m g c),
      (h c _ (mem_uc main_arg30 (by decide))).trans (W10_main_arg30 m g c),
      (h c _ (mem_uc main_arg31 (by decide))).trans (W10_main_arg31 m g c)⟩
  · refine (θ_run _ _ _).mono (fun r h c => ⟨?_, (h c).2⟩) (Cert.ReferenceIdeal.Value.run m' g')
    refine (h c).1.trans ((Cert.ReferenceIdeal.Read.val_main_v389_eq (StableHlo.launchContents m' c)).trans ?_)
    obtain ⟨e0, e1, e2, e3, e4, e5, e6, e7, e8, e9, e10, e11, e12, e13, e14, e15, e16, e17, e18, e19, e20, e21, e22, e23, e24, e25, e26, e27, e28, e29, e30, e31⟩ := hargs c
    exact agree_at m g c (hpre c) e0 e1 e2 e3 e4 e5 e6 e7 e8 e9 e10 e11 e12 e13 e14 e15 e16 e17 e18 e19 e20 e21 e22 e23 e24 e25 e26 e27 e28 e29 e30 e31

end Cert.Proof

end
-- ==== Proof.lean ====
/-
  The proof of the certificate: the frames of the kernel, of its ideal reading and of the reference, the kernel kept by that
  reading, and the equality of the results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The claims of the certificate: the frames of both programs and of the reference, the kernel's operations kept by the ideal
    pass, and the equality of the results over the extended reals. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => referenceFrame m ρ,
    fun m ρ _ => referenceFrame m ρ,
    trivial,
    results_equal⟩

end Cert.Proof

end
